-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_distinct [hPre_positions_distinct : Cert.Pre_positions_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_positions_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_distinct [hPre_positions_distinct : Cert.Pre_positions_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positions_distinct [hKernelIdeal : Cert.KernelIdeal.Facts] [hPre_positions_distinct : Cert.Pre_positions_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_distinct [hReferenceIdeal : Cert.ReferenceIdeal.Facts] [hPre_positions_distinct : Cert.Pre_positions_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_positions_distinct [hKernelIdeal : Cert.KernelIdeal.Facts] [hReferenceIdeal : Cert.ReferenceIdeal.Facts] [hPre_positions_distinct : Cert.Pre_positions_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positions_distinct : Cert.Pre_positions_distinct.Facts),
    quiescent_Kernel (hKernel := hKernel)
    ∧ quiescent_KernelIdeal (hKernelIdeal := hKernelIdeal)
    ∧ quiescent_KernelIdeal_pre_positions_distinct (hKernelIdeal := hKernelIdeal) (hPre_positions_distinct := hPre_positions_distinct)
    ∧ quiescent_ReferenceIdeal (hReferenceIdeal := hReferenceIdeal)
    ∧ quiescent_ReferenceIdeal_pre_positions_distinct (hReferenceIdeal := hReferenceIdeal) (hPre_positions_distinct := hPre_positions_distinct)
    ∧ preserves_Kernel_KernelIdeal
    ∧ algebraic_KernelIdeal_ReferenceIdeal_pre_positions_distinct (hKernelIdeal := hKernelIdeal) (hReferenceIdeal := hReferenceIdeal) (hPre_positions_distinct := hPre_positions_distinct)
-- ==== Pre_positions_distinct.lean ====
abbrev S2x1024x7680 : Shape := ⟨3, ![2, 1024, 7680]⟩
abbrev S2x1024 : Shape := ⟨2, ![2, 1024]⟩
abbrev S3840x2880 : Shape := ⟨2, ![3840, 2880]⟩
abbrev S240x2880 : Shape := ⟨2, ![240, 2880]⟩
abbrev S7680 : Shape := ⟨1, ![7680]⟩
abbrev S240x1x2880 : Shape := ⟨3, ![240, 1, 2880]⟩
abbrev S1x8x1 : Shape := ⟨3, ![1, 8, 1]⟩
abbrev S_ : Shape := ⟨0, ![]⟩
abbrev S240x8x2880 : Shape := ⟨3, ![240, 8, 2880]⟩

class Facts : Prop where
  bcast_S240x2880_S240x1x2880_0_2 : S240x2880.BroadcastsInDim S240x1x2880 (![0, 2] : Fin 2 → Fin S240x1x2880.rank)
  bcast_S_S1x8x1 : S_.BroadcastsInDim S1x8x1 (![] : Fin 0 → Fin S1x8x1.rank)
  bcast_S240x1x2880_S240x8x2880_0_1_2 : S240x1x2880.BroadcastsInDim S240x8x2880 (![0, 1, 2] : Fin 3 → Fin S240x8x2880.rank)
  bcast_S1x8x1_S240x8x2880_0_1_2 : S1x8x1.BroadcastsInDim S240x8x2880 (![0, 1, 2] : Fin 3 → Fin S240x8x2880.rank)
  bcast_S_S240x8x2880 : S_.BroadcastsInDim S240x8x2880 (![] : Fin 0 → Fin S240x8x2880.rank)

variable [Facts]

def fn {F : FTy → Type} [FloatOps F] (main_arg0 : FVec F S2x1024x7680 .fp8e5m2) (main_arg1 : FVec F S2x1024 .f32) (main_arg2 : IVec S3840x2880 8) (main_arg3 : IVec S240x2880 32) (main_arg4 : FVec F S7680 .f32) : IVec S240x8x2880 1 :=
  let main_v0 : IVec S240x1x2880 32 := broadcastInDim S240x1x2880 ![0, 2] bcast_S240x2880_S240x1x2880_0_2 main_arg3
  let main_v1 : IVec S1x8x1 32 := iotaInDim S1x8x1 32 1
  let main_c : IVec S_ 32 := constantI S_ 32 4#32
  let main_v2 : IVec S1x8x1 32 := broadcastInDim S1x8x1 ![] bcast_S_S1x8x1 main_c
  let main_v3 : IVec S1x8x1 32 := muli main_v2 main_v1
  let main_v4 : IVec S240x8x2880 32 := broadcastInDim S240x8x2880 ![0, 1, 2] bcast_S240x1x2880_S240x8x2880_0_1_2 main_v0
  let main_v5 : IVec S240x8x2880 32 := broadcastInDim S240x8x2880 ![0, 1, 2] bcast_S1x8x1_S240x8x2880_0_1_2 main_v3
  let main_v6 : IVec S240x8x2880 32 := Host.shrsi main_v4 main_v5
  let main_c_0 : IVec S_ 32 := constantI S_ 32 3#32
  let main_v7 : IVec S240x8x2880 32 := broadcastInDim S240x8x2880 ![] bcast_S_S240x8x2880 main_c_0
  let main_v8 : IVec S240x8x2880 32 := andi main_v6 main_v7
  let main_c_1 : IVec S_ 32 := constantI S_ 32 2#32
  let main_v9 : IVec S240x8x2880 32 := broadcastInDim S240x8x2880 ![] bcast_S_S240x8x2880 main_c_1
  let main_v10 : IVec S240x8x2880 32 := Host.shrsi main_v6 main_v9
  let main_c_2 : IVec S_ 32 := constantI S_ 32 3#32
  let main_v11 : IVec S240x8x2880 32 := broadcastInDim S240x8x2880 ![] bcast_S_S240x8x2880 main_c_2
  let main_v12 : IVec S240x8x2880 32 := andi main_v10 main_v11
  let main_v13 : IVec S240x8x2880 1 := cmpi .ne main_v8 main_v12
  main_v13
-- ==== Kernel.lean ====
abbrev S2x1024x7680 : Shape := ⟨3, ![2, 1024, 7680]⟩
abbrev S2x1024 : Shape := ⟨2, ![2, 1024]⟩
abbrev S3840x2880 : Shape := ⟨2, ![3840, 2880]⟩
abbrev S240x2880 : Shape := ⟨2, ![240, 2880]⟩
abbrev S7680 : Shape := ⟨1, ![7680]⟩
abbrev S2048x7680 : Shape := ⟨2, ![2048, 7680]⟩
abbrev S2048x1 : Shape := ⟨2, ![2048, 1]⟩
abbrev S1x7680 : Shape := ⟨2, ![1, 7680]⟩
abbrev S2048x2880 : Shape := ⟨2, ![2048, 2880]⟩
abbrev S3840x256 : Shape := ⟨2, ![3840, 256]⟩
abbrev S240x256 : Shape := ⟨2, ![240, 256]⟩
abbrev S2048x256 : Shape := ⟨2, ![2048, 256]⟩
abbrev S2x1920x128 : Shape := ⟨3, ![2, 1920, 128]⟩
abbrev S128x256 : Shape := ⟨2, ![128, 256]⟩
abbrev S8x256 : Shape := ⟨2, ![8, 256]⟩
abbrev S32x256 : Shape := ⟨2, ![32, 256]⟩
abbrev S32x128 : Shape := ⟨2, ![32, 128]⟩
abbrev S1x32x128 : Shape := ⟨3, ![1, 32, 128]⟩
abbrev S512x256 : Shape := ⟨2, ![512, 256]⟩
abbrev S1x1536 : Shape := ⟨2, ![1, 1536]⟩
abbrev S512x1536 : Shape := ⟨2, ![512, 1536]⟩
abbrev S1x384x128 : Shape := ⟨3, ![1, 384, 128]⟩
abbrev S384x128 : Shape := ⟨2, ![384, 128]⟩
abbrev S1536x128 : Shape := ⟨2, ![1536, 128]⟩
abbrev S1536x256 : Shape := ⟨2, ![1536, 256]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x1024x7680, .fp8e5m2⟩
  | .hbm, ⟨1, _⟩ => ⟨S2x1024, .f32⟩
  | .hbm, ⟨2, _⟩ => ⟨S3840x2880, .i8⟩
  | .hbm, ⟨3, _⟩ => ⟨S240x2880, .i32⟩
  | .hbm, ⟨4, _⟩ => ⟨S7680, .f32⟩
  | .hbm, ⟨5, _⟩ => ⟨S2048x7680, .fp8e5m2⟩
  | .hbm, ⟨6, _⟩ => ⟨S2048x1, .f32⟩
  | .hbm, ⟨7, _⟩ => ⟨S1x7680, .f32⟩
  | .hbm, ⟨8, _⟩ => ⟨S2048x2880, .bf16⟩
  | .local _ .vmem, ⟨0, _⟩ => ⟨S2048x7680, .fp8e5m2⟩
  | .local _ .vmem, ⟨1, _⟩ => ⟨S2048x1, .f32⟩
  | .local _ .vmem, ⟨2, _⟩ => ⟨S3840x256, .i8⟩
  | .local _ .vmem, ⟨3, _⟩ => ⟨S3840x256, .i8⟩
  | .local _ .vmem, ⟨4, _⟩ => ⟨S240x256, .i32⟩
  | .local _ .vmem, ⟨5, _⟩ => ⟨S240x256, .i32⟩
  | .local _ .vmem, ⟨6, _⟩ => ⟨S1x7680, .f32⟩
  | .local _ .vmem, ⟨7, _⟩ => ⟨S2048x256, .bf16⟩
  | .local _ .vmem, ⟨8, _⟩ => ⟨S2048x256, .bf16⟩
  | .local _ .vmem, ⟨9, _⟩ => ⟨S2x1920x128, .i32⟩
  | _, _ => ⟨S2x1024x7680, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c30_i32 : BitVec 32 := 30#32
  let v0 : BitVec 32 := Scalar.addi c0_i32 c30_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v5 : BitVec 32 := Scalar.muli arg8 c8_i32
  let v6 : Index := Scalar.indexCast v5
  let c0_4 : Index := 0#32
  ![v6.toNat, 0]
def k0_off3 (k0_t1 : Fin k0_t1_loop.trips) : Fin 3 → Nat :=
  let c0_13 : Index := 0#32
  let c0_i32 : BitVec 32 := 0#32
  let c1_i32 : BitVec 32 := 1#32
  let arg8 : BitVec 32 := Scf.iv c0_i32 c1_i32 k0_t1
  let c64_i32 : BitVec 32 := 64#32
  let v46 : BitVec 32 := Scalar.muli arg8 c64_i32
  let v47 : Index := Scalar.indexCast v46
  let c0_14 : Index := 0#32
  ![0, v47.toNat, 0]
def k0_off4 (k0_t1 : Fin k0_t1_loop.trips) : Fin 3 → Nat :=
  let c0_17 : Index := 0#32
  let c0_i32 : BitVec 32 := 0#32
  let c1_i32 : BitVec 32 := 1#32
  let arg8 : BitVec 32 := Scf.iv c0_i32 c1_i32 k0_t1
  let c64_i32_15 : BitVec 32 := 64#32
  let v52 : BitVec 32 := Scalar.muli arg8 c64_i32_15
  let c1_i32_16 : BitVec 32 := 1#32
  let v53 : BitVec 32 := Scalar.addi v52 c1_i32_16
  let v54 : Index := Scalar.indexCast v53
  let c0_18 : Index := 0#32
  ![0, v54.toNat, 0]
def k0_off5 (k0_t1 : Fin k0_t1_loop.trips) : Fin 3 → Nat :=
  let c1 : Index := 1#32
  let c0_i32 : BitVec 32 := 0#32
  let c1_i32 : BitVec 32 := 1#32
  let arg8 : BitVec 32 := Scf.iv c0_i32 c1_i32 k0_t1
  let c64_i32_19 : BitVec 32 := 64#32
  let v59 : BitVec 32 := Scalar.muli arg8 c64_i32_19
  let v60 : Index := Scalar.indexCast v59
  let c0_20 : Index := 0#32
  ![1, v60.toNat, 0]
def k0_off6 (k0_t1 : Fin k0_t1_loop.trips) : Fin 3 → Nat :=
  let c1_23 : Index := 1#32
  let c0_i32 : BitVec 32 := 0#32
  let c1_i32 : BitVec 32 := 1#32
  let arg8 : BitVec 32 := Scf.iv c0_i32 c1_i32 k0_t1
  let c64_i32_21 : BitVec 32 := 64#32
  let v65 : BitVec 32 := Scalar.muli arg8 c64_i32_21
  let c1_i32_22 : BitVec 32 := 1#32
  let v66 : BitVec 32 := Scalar.addi v65 c1_i32_22
  let v67 : Index := Scalar.indexCast v66
  let c0_24 : Index := 0#32
  ![1, v67.toNat, 0]
@[reducible] def k0_t2_loop : Scf.Loop 32 :=
  let c0_i32_1 : BitVec 32 := 0#32
  let c4_i32 : BitVec 32 := 4#32
  let v1 : BitVec 32 := Scalar.addi c0_i32_1 c4_i32
  let c1_i32_2 : BitVec 32 := 1#32
  ⟨c0_i32_1, v1, c1_i32_2⟩
def k0_mult1 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32 : BitVec 32 := 512#32
  let v6 : BitVec 32 := Scalar.muli arg8 c512_i32
  v6
def k0_off7 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32 : BitVec 32 := 512#32
  let v6 : BitVec 32 := Scalar.muli arg8 c512_i32
  let v7 : BitVec 32 := v6
  let v8 : Index := Scalar.indexCast v7
  let c0_5 : Index := 0#32
  ![v8.toNat, 0]
def k0_mult2 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32_13 : BitVec 32 := 512#32
  let v27 : BitVec 32 := Scalar.muli arg8 c512_i32_13
  v27
def k0_off8 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_13 : BitVec 32 := 512#32
  let v27 : BitVec 32 := Scalar.muli arg8 c512_i32_13
  let v28 : BitVec 32 := v27
  let v29 : Index := Scalar.indexCast v28
  let c1536_14 : Index := 1536#32
  ![v29.toNat, 1536]
def k0_mult3 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32_22 : BitVec 32 := 512#32
  let v48 : BitVec 32 := Scalar.muli arg8 c512_i32_22
  v48
def k0_off9 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_22 : BitVec 32 := 512#32
  let v48 : BitVec 32 := Scalar.muli arg8 c512_i32_22
  let v49 : BitVec 32 := v48
  let v50 : Index := Scalar.indexCast v49
  let c3072_23 : Index := 3072#32
  ![v50.toNat, 3072]
def k0_mult4 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32_31 : BitVec 32 := 512#32
  let v69 : BitVec 32 := Scalar.muli arg8 c512_i32_31
  v69
def k0_off10 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_31 : BitVec 32 := 512#32
  let v69 : BitVec 32 := Scalar.muli arg8 c512_i32_31
  let v70 : BitVec 32 := v69
  let v71 : Index := Scalar.indexCast v70
  let c4608_32 : Index := 4608#32
  ![v71.toNat, 4608]
def k0_mult5 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32_40 : BitVec 32 := 512#32
  let v90 : BitVec 32 := Scalar.muli arg8 c512_i32_40
  v90
def k0_off11 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_40 : BitVec 32 := 512#32
  let v90 : BitVec 32 := Scalar.muli arg8 c512_i32_40
  let v91 : BitVec 32 := v90
  let v92 : Index := Scalar.indexCast v91
  let c6144_41 : Index := 6144#32
  ![v92.toNat, 6144]
def k0_mult6 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32_49 : BitVec 32 := 512#32
  let v108 : BitVec 32 := Scalar.muli arg8 c512_i32_49
  v108
def k0_off12 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_49 : BitVec 32 := 512#32
  let v108 : BitVec 32 := Scalar.muli arg8 c512_i32_49
  let v109 : BitVec 32 := v108
  let v110 : Index := Scalar.indexCast v109
  let c0_50 : Index := 0#32
  ![v110.toNat, 0]
def k0_off13 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c512_i32_49 : BitVec 32 := 512#32
  let v108 : BitVec 32 := Scalar.muli arg8 c512_i32_49
  let v109 : BitVec 32 := v108
  let v116 : Index := Scalar.indexCast v109
  let c0_51 : Index := 0#32
  ![v116.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x7680 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3840x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S240x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x1024x7680 : Shape := ⟨3, ![2, 1024, 7680]⟩
abbrev S2x1024 : Shape := ⟨2, ![2, 1024]⟩
abbrev S3840x2880 : Shape := ⟨2, ![3840, 2880]⟩
abbrev S240x2880 : Shape := ⟨2, ![240, 2880]⟩
abbrev S7680 : Shape := ⟨1, ![7680]⟩
abbrev S2048x7680 : Shape := ⟨2, ![2048, 7680]⟩
abbrev S2048x1 : Shape := ⟨2, ![2048, 1]⟩
abbrev S7680x1 : Shape := ⟨2, ![7680, 1]⟩
abbrev S2048x2880 : Shape := ⟨2, ![2048, 2880]⟩
abbrev S1x16x1 : Shape := ⟨3, ![1, 16, 1]⟩
abbrev S240x1x2880 : Shape := ⟨3, ![240, 1, 2880]⟩
abbrev S240x16x2880 : Shape := ⟨3, ![240, 16, 2880]⟩
abbrev S1920x2x2880 : Shape := ⟨3, ![1920, 2, 2880]⟩
abbrev S1920x2x1x2880 : Shape := ⟨4, ![1920, 2, 1, 2880]⟩
abbrev S1x1x4x1 : Shape := ⟨4, ![1, 1, 4, 1]⟩
abbrev S1920x2x4x2880 : Shape := ⟨4, ![1920, 2, 4, 2880]⟩
abbrev S1920x4x2880 : Shape := ⟨3, ![1920, 4, 2880]⟩
abbrev S7680x2880 : Shape := ⟨2, ![7680, 2880]⟩

abbrev nBuf : Space → Nat
  | .hbm => 9
  | .vmem => 6
  | .smem => 0
  | _ => 0

abbrev bufTy : (tb : Table) → Fin (tcTables nBuf tb) → BufTy
  | .hbm, ⟨0, _⟩ => ⟨S2x1024x7680, .fp8e5m2⟩
  | .hbm, ⟨1, _⟩ => ⟨S2x1024, .f32⟩
  | .hbm, ⟨2, _⟩ => ⟨S3840x2880, .i8⟩
  | .hbm, ⟨3, _⟩ => ⟨S240x2880, .i32⟩
  | .hbm, ⟨4, _⟩ => ⟨S7680, .f32⟩
  | .hbm, ⟨5, _⟩ => ⟨S2048x7680, .fp8e5m2⟩
  | .hbm, ⟨6, _⟩ => ⟨S2048x1, .f32⟩
  | .hbm, ⟨7, _⟩ => ⟨S7680x1, .f32⟩
  | .hbm, ⟨8, _⟩ => ⟨S2048x2880, .bf16⟩
  | .local _ .vmem, ⟨0, _⟩ => ⟨S2048x7680, .fp8e5m2⟩
  | .local _ .vmem, ⟨1, _⟩ => ⟨S2048x1, .f32⟩
  | .local _ .vmem, ⟨2, _⟩ => ⟨S3840x2880, .i8⟩
  | .local _ .vmem, ⟨3, _⟩ => ⟨S240x2880, .i32⟩
  | .local _ .vmem, ⟨4, _⟩ => ⟨S7680x1, .f32⟩
  | .local _ .vmem, ⟨5, _⟩ => ⟨S2048x2880, .bf16⟩
  | _, _ => ⟨S2x1024x7680, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x7680 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S240x2880 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/- The frame of the printed kernel: it runs at every initial memory, faults nowhere, leaves its arguments unchanged and every
   semaphore counter at zero. Nothing is said of the result, so every staging buffer is held at SOME contents throughout (all six
   windows forgotten, Lib/Pipeline/Frame.lean `θ_run_frame_forget`): the last block of columns overhangs its array, and what the
   overhanging columns of a buffer hold is not determined. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The expansion loop's invariant: the codes' and the positions' buffers unchanged, the scratch at some contents. -/
abbrev expandInv (c : Dev nD) (arg3 : Memref sig .tc .vmem S3840x256 .i8) (arg4 : Memref sig .tc .vmem S240x256 .i32)
    (arg7 : Memref sig .tc .vmem S2x1920x128 .i32) (X3 : BufTy.Contents (Elt F) arg3.view.ty)
    (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f)))

set_option warn.classDefReducibility false in
set_option maxHeartbeats 4000000 in
/-- The expansion loop keeps `expandInv`: one trip, at any trip number, loads its rows and overwrites its rows of the scratch. -/
@[sl_loop] def loopInv_k0_t1 (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole)
    (X3 : BufTy.Contents (Elt F) arg3.view.ty) (X4 : BufTy.Contents (Elt F) arg4.view.ty) :
    LoopInvTy_k0_t1 (F := F) Unit ℕ (UR sig nD τ) ℕ Variants.none c none Set.univ i arg1 harg1 arg2 harg2 arg3 harg3 arg4 harg4 arg5 harg5 arg6 harg6 arg7 harg7 where
  inv := fun _ _ => expandInv c arg3 arg4 arg7 X3 X4
  step k acc := by
    have hk : k.val < 30 := Nat.lt_of_lt_of_le k.isLt k0_t1_abs.2.1
    iintro ⟨H3, H4, ⟨%f7, H7⟩⟩
    unfold k0_t1_body
    simp only [k0_part1_eq_skeleton]
    sl_exec
    sl_step
    isplitl [H3]; · iexact H3
    isplitl [H4]; · iexact H4
    iexists _; iexact H7

set_option maxHeartbeats 2000000 in
/-- The kernel body on whole buffers at any contents runs to its end and gives each back at some contents. -/
theorem sound_kernel (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)) -∗ K ⟨⟩))
      ⊢ wp frame (wpE (defs₀ (F := F)) Variants.none c none) Set.univ (cc0_dgrad24 i arg1 harg1 arg2 harg2 arg3 harg3 arg4 harg4 arg5 harg5 arg6 harg6 arg7 harg7) K := by
  simp only [cc0_dgrad24_eq_skeleton]; unfold cc0_dgrad24_skel owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

variable (m : (ℓ : Loc nD τ sig) → Buf (Elt F) ℓ) (ρ : Dev nD → PrngReg)

/-- The pipeline's proof data: the arrays as the region finds them; what the body leaves in a buffer is not named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body is called with, and what it returns, at a point: the invariant (the scratch at some contents, the generator
    register), nothing owed, and each window's buffer at some contents. -/
def bodyRes (c : Dev nD) (t : Fin cfg0.N) : sProp 𝕄 :=
  iprop((Pipeline.ΦA (U := UR sig nD τ) spec0 c : sProp 𝕄) ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

/-- The body at any point. -/
theorem sound_body (c : Dev nD) (t : Fin cfg0.N) :
    bodyRes m c t ⊢ wp frame (wpE (defs₀ (F := F)) Variants.none c none) Set.univ (bodyAt0 t) (fun _ => bodyRes m c t) := by
  unfold bodyRes bodyAt0 Pipeline.ΦA
  rw [scopedRest0_eq]
  simp only [← owns_whole]
  iintro ⟨⟨⟨%g, Hg⟩, Hr⟩, Ho, H1, H2, H3, H4, H5, H6⟩
  iapply (sound_kernel c _ _ _ _ _ _ _ _ _ _ _ _ _ _ _ _)
  isplitl [H1]; · iexact H1
  isplitl [H2]; · iexact H2
  isplitl [H3]; · iexact H3
  isplitl [H4]; · iexact H4
  isplitl [H5]; · iexact H5
  isplitl [H6]; · iexact H6
  isplitl [Hg]
  · iexists g; iexact Hg
  iintro ⟨H1, H2, H3, H4, H5, H6, ⟨%g', Hg⟩⟩
  isplitl [Hg Hr]
  · isplitl [Hg]
    · iexists g'; iexact Hg
    iexact Hr
  isplitl [Ho]; · iexact Ho
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
set_option maxHeartbeats 800000 in
/-- The launch: every final state has the arguments' arrays as the region found them and every counter at zero. -/
theorem run_main : θ_run defs (onTc (τ := τ) (main (F := F))) (s₀ m ρ) (fun r =>
    Pipeline.RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: `Cert.quiescent_Kernel`'s statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c)⟩, h.2⟩)
    (run_main m ρ)

end Cert.Proof.Kernel

end
-- ==== Proof.KernelIdealFrame.lean ====
/- The frame of the idealized kernel: it runs at every initial memory, faults nowhere, leaves its arguments unchanged and every
   semaphore counter at zero. Nothing is said of the result, so every staging buffer is held at SOME contents throughout (all six
   windows forgotten, Lib/Pipeline/Frame.lean `θ_run_frame_forget`): the last block of columns overhangs its array, and what the
   overhanging columns of a buffer hold is not determined. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The expansion loop's invariant: the codes' and the positions' buffers unchanged, the scratch at some contents. -/
abbrev expandInv (c : Dev nD) (arg3 : Memref sig .tc .vmem S3840x256 .i8) (arg4 : Memref sig .tc .vmem S240x256 .i32)
    (arg7 : Memref sig .tc .vmem S2x1920x128 .i32) (X3 : BufTy.Contents (Elt F) arg3.view.ty)
    (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f)))

set_option warn.classDefReducibility false in
set_option maxHeartbeats 4000000 in
/-- The expansion loop keeps `expandInv`: one trip, at any trip number, loads its rows and overwrites its rows of the scratch. -/
@[sl_loop] def loopInv_k0_t1 (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole)
    (X3 : BufTy.Contents (Elt F) arg3.view.ty) (X4 : BufTy.Contents (Elt F) arg4.view.ty) :
    LoopInvTy_k0_t1 (F := F) Unit ℕ (UR sig nD τ) ℕ Variants.none c none Set.univ i arg1 harg1 arg2 harg2 arg3 harg3 arg4 harg4 arg5 harg5 arg6 harg6 arg7 harg7 where
  inv := fun _ _ => expandInv c arg3 arg4 arg7 X3 X4
  step k acc := by
    have hk : k.val < 30 := Nat.lt_of_lt_of_le k.isLt k0_t1_abs.2.1
    iintro ⟨H3, H4, ⟨%f7, H7⟩⟩
    unfold k0_t1_body
    simp only [k0_part1_eq_skeleton]
    sl_exec
    sl_step
    isplitl [H3]; · iexact H3
    isplitl [H4]; · iexact H4
    iexists _; iexact H7

set_option maxHeartbeats 2000000 in
/-- The kernel body on whole buffers at any contents runs to its end and gives each back at some contents. -/
theorem sound_kernel (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)) -∗ K ⟨⟩))
      ⊢ wp frame (wpE (defs₀ (F := F)) Variants.none c none) Set.univ (cc0_dgrad24 i arg1 harg1 arg2 harg2 arg3 harg3 arg4 harg4 arg5 harg5 arg6 harg6 arg7 harg7) K := by
  simp only [cc0_dgrad24_eq_skeleton]; unfold cc0_dgrad24_skel owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

variable (m : (ℓ : Loc nD τ sig) → Buf (Elt F) ℓ) (ρ : Dev nD → PrngReg)

/-- The pipeline's proof data: the arrays as the region finds them; what the body leaves in a buffer is not named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body is called with, and what it returns, at a point: the invariant (the scratch at some contents, the generator
    register), nothing owed, and each window's buffer at some contents. -/
def bodyRes (c : Dev nD) (t : Fin cfg0.N) : sProp 𝕄 :=
  iprop((Pipeline.ΦA (U := UR sig nD τ) spec0 c : sProp 𝕄) ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

/-- The body at any point. -/
theorem sound_body (c : Dev nD) (t : Fin cfg0.N) :
    bodyRes m c t ⊢ wp frame (wpE (defs₀ (F := F)) Variants.none c none) Set.univ (bodyAt0 t) (fun _ => bodyRes m c t) := by
  unfold bodyRes bodyAt0 Pipeline.ΦA
  rw [scopedRest0_eq]
  simp only [← owns_whole]
  iintro ⟨⟨⟨%g, Hg⟩, Hr⟩, Ho, H1, H2, H3, H4, H5, H6⟩
  iapply (sound_kernel c _ _ _ _ _ _ _ _ _ _ _ _ _ _ _ _)
  isplitl [H1]; · iexact H1
  isplitl [H2]; · iexact H2
  isplitl [H3]; · iexact H3
  isplitl [H4]; · iexact H4
  isplitl [H5]; · iexact H5
  isplitl [H6]; · iexact H6
  isplitl [Hg]
  · iexists g; iexact Hg
  iintro ⟨H1, H2, H3, H4, H5, H6, ⟨%g', Hg⟩⟩
  isplitl [Hg Hr]
  · isplitl [Hg]
    · iexists g'; iexact Hg
    iexact Hr
  isplitl [Ho]; · iexact Ho
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
set_option maxHeartbeats 800000 in
/-- The launch: every final state has the arguments' arrays as the region found them and every counter at zero. -/
theorem run_main : θ_run defs (onTc (τ := τ) (main (F := F))) (s₀ m ρ) (fun r =>
    Pipeline.RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: `Cert.quiescent_KernelIdeal`'s statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c)⟩, h.2⟩)
    (run_main m ρ)

end Cert.Proof.KernelIdeal

end
-- ==== Proof.Words.lean ====
module

public import Idealize.ShloMosaic.Lib.PointwiseCore
public import Idealize.ShloMosaic.Lib.BitcastFour
public import Mathlib.Tactic.IntervalCases

/-!
  THE WORDS OF THE PACKED WEIGHT, as bits alone (no memory, no floating point).

  A group of four weights is stored as two eight-bit codes and two two-bit positions. `field w e` is the `e`-th two-bit
  field of a word of positions, `groupPos` the position of one of the two codes of a group, `joinCodes` the 32-bit word
  with two codes put at two byte positions and joined by "or", `groupWord` that word for a group of one column, and
  `denseCode` the code of one row of the dense weight: byte `o % 4` of the word of group `o / 4`. The theorems say that
  the masks and shifts which the kernel computes with are these.
-/

@[expose] public section

namespace Cert.Proof.Words

open Idealize.ShloMosaic

/-- Byte `j` of a 32-bit word. -/
def byteOf (w : BitVec 32) (j : Nat) : BitVec 8 := w.extractLsb' (8 * j) 8

/-- The two-bit field `e` of a 32-bit word. -/
def field (w : BitVec 32) (e : Nat) : BitVec 32 := (w >>> (2 * e)) &&& 3#32

/-- Two codes put at the byte positions `p` and `q` of a word, and joined. -/
def joinCodes (a b : BitVec 8) (p q : BitVec 32) : BitVec 32 :=
  (a.setWidth 32 <<< (8 * p.toNat)) ||| (b.setWidth 32 <<< (8 * q.toNat))

/-- The position, within group `g` of a column, of that group's code `q`: eight groups to a word, two fields a group. -/
def groupPos (mt : Fin 240 → BitVec 32) (g : Fin 1920) (q : Nat) : BitVec 32 :=
  field (mt ⟨g.val / 8, by omega⟩) (2 * (g.val % 8) + q)

/-- Code `q` of group `g` of a column. -/
def groupCode (v : Fin 3840 → BitVec 8) (g : Fin 1920) (q : Fin 2) : BitVec 8 := v ⟨2 * g.val + q.val, by omega⟩

/-- Group `g` of a column as one word: each of its two codes at its position. -/
def groupWord (v : Fin 3840 → BitVec 8) (mt : Fin 240 → BitVec 32) (g : Fin 1920) : BitVec 32 :=
  joinCodes (groupCode v g 0) (groupCode v g 1) (groupPos mt g 0) (groupPos mt g 1)

/-- The code of row `o` of a column of the dense weight. -/
def denseCode (v : Fin 3840 → BitVec 8) (mt : Fin 240 → BitVec 32) (o : Fin 7680) : BitVec 8 :=
  byteOf (groupWord v mt ⟨o.val / 4, by omega⟩) (o.val % 4)

/-- A byte of a word as a number. -/
theorem byteOf_toNat (w : BitVec 32) (j : Nat) : (byteOf w j).toNat = w.toNat / 2 ^ (8 * j) % 256 := by
  unfold byteOf
  simp [BitVec.extractLsb'_toNat, Nat.shiftRight_eq_div_pow]

/-- A field of a word as a number. -/
theorem field_toNat (w : BitVec 32) (e : Nat) : (field w e).toNat = w.toNat / 2 ^ (2 * e) % 4 := by
  unfold field
  simp only [BitVec.toNat_and, BitVec.toNat_ushiftRight, Nat.shiftRight_eq_div_pow]
  exact Nat.and_two_pow_sub_one_eq_mod _ 2

/-- A field is below four. -/
theorem field_lt (w : BitVec 32) (e : Nat) : (field w e).toNat < 4 := by
  rw [field_toNat]; exact Nat.mod_lt _ (by decide)

/-- Masking eight times a byte, shifted right by twice `i`, to the bits of weight 8 and 16 gives eight times the byte's
    field `i`. -/
theorem mask_byte : ∀ (m : BitVec 8) (i : Fin 4),
    (((m.setWidth 32 <<< 3) >>> (2 * i.val)) &&& 24#32).toNat = 8 * (m.toNat / 2 ^ (2 * i.val) % 4) := by
  decide +kernel

/-- The same with the byte taken from a word: eight times the word's field. -/
theorem mask_word (w : BitVec 32) (j i : Fin 4) :
    ((((byteOf w j).setWidth 32 <<< 3) >>> (2 * i.val)) &&& 24#32).toNat = 8 * (field w (4 * j + i)).toNat := by
  rw [mask_byte, field_toNat, byteOf_toNat]
  fin_cases j <;> fin_cases i <;> simp <;> omega

/-- The shift to the left by an amount below the width. -/
theorem shli_of (x y : BitVec 32) (n : Nat) (h : y.toNat = n) (hn : n < 32) : IntOp.shli .vector x y = x <<< n := by
  unfold IntOp.shli
  rw [if_pos (by omega), ← h]; rfl

/-- The logical shift to the right by an amount below the width. -/
theorem shrui_of (x y : BitVec 32) (n : Nat) (h : y.toNat = n) (hn : n < 32) : IntOp.shrui .vector x y = x >>> n := by
  unfold IntOp.shrui
  rw [if_pos (by omega), ← h]; rfl

/-- A word shifted down by `j` bytes and masked to a byte is its byte `j`. -/
theorem mask_code (x : BitVec 32) (j : Nat) : (x >>> (8 * j)) &&& 255#32 = (byteOf x j).setWidth 32 := by
  apply BitVec.eq_of_toNat_eq
  simp only [BitVec.toNat_and, BitVec.toNat_ushiftRight, Nat.shiftRight_eq_div_pow, BitVec.toNat_setWidth, byteOf_toNat]
  rw [show (255#32).toNat = 2 ^ 8 - 1 from rfl, Nat.and_two_pow_sub_one_eq_mod]
  omega

/-- A word shifted down by three bytes is its top byte. -/
theorem top_code (x : BitVec 32) : x >>> 24 = (byteOf x 3).setWidth 32 := by
  apply BitVec.eq_of_toNat_eq
  have := x.isLt
  simp only [BitVec.toNat_ushiftRight, Nat.shiftRight_eq_div_pow, BitVec.toNat_setWidth, byteOf_toNat]
  omega

/-- THE EVEN WORD: what the kernel computes from a word of four codes and a byte of four positions is the word of the
    first two. -/
theorem even_word (x w : BitVec 32) (j : Fin 4) :
    IntOp.ori
      (IntOp.shli .vector (IntOp.andi x 255#32)
        (IntOp.andi (IntOp.shli .vector ((byteOf w j).setWidth 32) 3#32) 24#32))
      (IntOp.shli .vector (IntOp.andi (IntOp.shrui .vector x 8#32) 255#32)
        (IntOp.andi (IntOp.shrui .vector (IntOp.shli .vector ((byteOf w j).setWidth 32) 3#32) 2#32) 24#32))
      = joinCodes (byteOf x 0) (byteOf x 1) (field w (4 * j)) (field w (4 * j + 1)) := by
  have f0 := field_lt w (4 * j)
  have f1 := field_lt w (4 * j + 1)
  rw [shli_of _ 3#32 3 rfl (by decide), shrui_of _ 2#32 2 rfl (by decide), shrui_of _ 8#32 8 rfl (by decide)]
  have e0 : (IntOp.andi ((byteOf w j).setWidth 32 <<< 3) 24#32).toNat = 8 * (field w (4 * j)).toNat := by
    have h := mask_word w j 0
    simp only [Fin.val_zero, Nat.mul_zero, BitVec.ushiftRight_zero, Nat.add_zero] at h
    exact h
  have e1 : (IntOp.andi ((byteOf w j).setWidth 32 <<< 3 >>> 2) 24#32).toNat = 8 * (field w (4 * j + 1)).toNat :=
    mask_word w j 1
  rw [shli_of _ _ _ e0 (by omega), shli_of _ _ _ e1 (by omega)]
  have h0 := mask_code x 0
  have h1 := mask_code x 1
  simp only [Nat.mul_zero, BitVec.ushiftRight_zero] at h0
  show (x &&& 255#32) <<< _ ||| ((x >>> (8 * 1)) &&& 255#32) <<< _ = _
  rw [h0, h1]
  rfl

/-- THE ODD WORD: likewise the word of the last two. -/
theorem odd_word (x w : BitVec 32) (j : Fin 4) :
    IntOp.ori
      (IntOp.shli .vector (IntOp.andi (IntOp.shrui .vector x 16#32) 255#32)
        (IntOp.andi (IntOp.shrui .vector (IntOp.shli .vector ((byteOf w j).setWidth 32) 3#32) 4#32) 24#32))
      (IntOp.shli .vector (IntOp.shrui .vector x 24#32)
        (IntOp.andi (IntOp.shrui .vector (IntOp.shli .vector ((byteOf w j).setWidth 32) 3#32) 6#32) 24#32))
      = joinCodes (byteOf x 2) (byteOf x 3) (field w (4 * j + 2)) (field w (4 * j + 3)) := by
  have f0 := field_lt w (4 * j + 2)
  have f1 := field_lt w (4 * j + 3)
  rw [shli_of _ 3#32 3 rfl (by decide), shrui_of _ 4#32 4 rfl (by decide), shrui_of _ 6#32 6 rfl (by decide),
    shrui_of _ 16#32 16 rfl (by decide), shrui_of _ 24#32 24 rfl (by decide)]
  have e2 : (IntOp.andi ((byteOf w j).setWidth 32 <<< 3 >>> 4) 24#32).toNat = 8 * (field w (4 * j + 2)).toNat :=
    mask_word w j 2
  have e3 : (IntOp.andi ((byteOf w j).setWidth 32 <<< 3 >>> 6) 24#32).toNat = 8 * (field w (4 * j + 3)).toNat :=
    mask_word w j 3
  rw [shli_of _ _ _ e2 (by omega), shli_of _ _ _ e3 (by omega)]
  show ((x >>> (8 * 2)) &&& 255#32) <<< _ ||| (x >>> 24) <<< _ = _
  rw [mask_code x 2, top_code]
  rfl

/-- Four rows of bytes read as a row of words: byte `j` of word row `a` is byte row `4a + j`. -/
theorem byteOf_bitcast {R r n : Nat} (x : (⟨2, ![R, n]⟩ : Shape).Idx → BitVec 8)
    (h : (⟨2, ![R, n]⟩ : Shape).Bitcasts 8 ⟨2, ![r, n]⟩ 32) (a : Fin r) (l : Fin n) (j : Nat) (hj : j < 4) (p : Fin R)
    (hp : p.val = 4 * a.val + j) :
    byteOf (bitcast ⟨2, ![r, n]⟩ 32 x h (ix2 a l)) j = x (ix2 p l) := by
  apply BitVec.eq_of_getLsbD_eq
  intro i hi
  unfold byteOf
  rw [BitVec.getLsbD_extractLsb', ix2_eq_valueIdx, ix2_eq_valueIdx,
    bitcast_8_32_getLsbD_ix2 x h a l (8 * j + i) (by omega) p (by omega), show (8 * j + i) % 8 = i by omega]
  simp [hi]

/-- Rows of words read as rows of bytes: byte row `a` is byte `a % 4` of word row `a / 4`. -/
theorem bitcast_bytes {R r n : Nat} (x : (⟨2, ![R, n]⟩ : Shape).Idx → BitVec 32)
    (h : (⟨2, ![R, n]⟩ : Shape).Bitcasts 32 ⟨2, ![r, n]⟩ 8) (a : Fin r) (l : Fin n) (p : Fin R) (hp : p.val = a.val / 4) :
    bitcast ⟨2, ![r, n]⟩ 8 x h (ix2 a l) = byteOf (x (ix2 p l)) (a.val % 4) := by
  apply BitVec.eq_of_getLsbD_eq
  intro i hi
  have er : (⟨2, ![r, n]⟩ : Shape).row (ix2 a l) = a.val := rfl
  have eq : ((⟨2, ![r, n]⟩ : Shape).row (ix2 a l) * 8 + i) % 32 = 8 * (a.val % 4) + i := by rw [er]; omega
  unfold byteOf
  rw [bitcast_getLsbD x h _ i hi (by decide), BitVec.getLsbD_extractLsb', eq]
  simp only [hi, decide_true, Bool.true_and]
  congr 2
  funext c
  match c with
  | ⟨0, _⟩ => exact Fin.ext ((h.srcIdx_row _ _ _ ⟨0, Nat.zero_lt_two⟩ rfl).trans (by rw [er]; show _ = p.val; omega))
  | ⟨1, _⟩ => exact Fin.ext (h.srcIdx_other _ _ _ ⟨1, Nat.one_lt_two⟩ (by show ¬ 1 + 2 = 2; omega))

end Cert.Proof.Words
-- ==== Proof.Expand.lean ====
module

public import proofs.«01_k».proof.Proof.Gen.KernelIdeal.Skeleton
public import Idealize.ShloMosaic.Lib.Pipeline.Value
public import proofs.«01_k».proof.Proof.Words

/-!
  THE EXPANSION: what the first loop of the kernel stores. `WORDS` is the scratch the loop fills, a word per group and
  column; `expandPieces` lists the stores of the trips before `k`. Every store agrees with `WORDS` (`expandPieces_agree`),
  and the stores of all thirty trips cover the scratch (`expandPieces_cover`), so after the loop the scratch holds `WORDS`.
-/

@[expose] public section

set_option maxRecDepth 16384

noncomputable section

namespace Cert.Proof.KernelIdealValue

open Cert.KernelIdeal Cert.KernelIdeal.Gen Cert.Proof.Words
open Idealize.ShloMosaic

variable {F : FTy → Type} [FloatOps F]

/-- Column `c` of a matrix. -/
def colOf {R C : Nat} {α : Type} (x : (⟨2, ![R, C]⟩ : Shape).Idx → α) (c : Fin C) : Fin R → α := fun r => x (ix2 r c)

/-- The column of a block that lane `l` of half `h` of the scratch holds. -/
def colAt (h : Fin 2) (l : Fin 128) : Fin 256 := ⟨128 * h.val + l.val, by omega⟩

/-- The scratch after the expansion of a block of codes and a block of positions. -/
def WORDS (x3 : Vec F S3840x256 .i8) (x4 : Vec F S240x256 .i32) : Vec F S2x1920x128 .i32 := fun y =>
  groupWord (colOf x3 (colAt (y 0) (y 2))) (colOf x4 (colAt (y 0) (y 2))) (y 1)

/-- The rows of codes that trip `k` loads. -/
abbrev codesRect (k : Fin k0_t1_loop.trips) : Rect S3840x256 := Rect.unit (k0_off1 k) S128x256.size (k0_off1_inb k)
/-- The rows of positions that trip `k` loads. -/
abbrev posRect (k : Fin k0_t1_loop.trips) : Rect S240x256 := Rect.unit (k0_off2 k) S8x256.size (k0_off2_inb k)

/-- The codes that trip `k` loads. -/
def loadCodes (x3 : Vec F S3840x256 .i8) (k : Fin k0_t1_loop.trips) : Vec F S128x256 .i8 := View.ld x3 (codesRect k)
/-- The words of positions that trip `k` loads. -/
def loadPos (x4 : Vec F S240x256 .i32) (k : Fin k0_t1_loop.trips) : Vec F S8x256 .i32 := View.ld x4 (posRect k)

/-- The loop makes at most thirty trips. -/
theorem trip_lt (k : Fin k0_t1_loop.trips) : k.val < 30 := Nat.lt_of_lt_of_le k.isLt k0_t1_abs.2.1

/-- A loaded code. -/
theorem codes_at (x3 : Vec F S3840x256 .i8) (k : Fin k0_t1_loop.trips) (a : Fin 128) (c : Fin 256) (p : Fin 3840)
    (hp : p.val = 128 * k.val + a.val) : loadCodes x3 k (ix2 a c) = x3 (ix2 p c) := by
  have hk := trip_lt k
  pointwise [loadCodes, codesRect, k0_off1_eq]
  congr 2
  exact Fin.ext hp.symm

/-- A loaded word of positions. -/
theorem pos_at (x4 : Vec F S240x256 .i32) (k : Fin k0_t1_loop.trips) (a : Fin 8) (c : Fin 256) (p : Fin 240)
    (hp : p.val = 8 * k.val + a.val) : loadPos x4 k (ix2 a c) = x4 (ix2 p c) := by
  have hk := trip_lt k
  pointwise [loadPos, posRect, k0_off2_eq]
  congr 2
  exact Fin.ext hp.symm

/-- What a pair of words is made of: word `r` of trip `k`'s codes, read as the words of groups `64k + 2r` (`q = 0`) and
    `64k + 2r + 1` (`q = 1`). -/
theorem word_at (x3 : Vec F S3840x256 .i8) (x4 : Vec F S240x256 .i32) (k : Fin k0_t1_loop.trips) (r : Fin 32) (c : Fin 256)
    (q : Nat) (hq : q < 2) (g : Fin 1920) (hg : g.val = 64 * k.val + 2 * r.val + q) :
    joinCodes (byteOf (bitcast S32x256 32 (loadCodes x3 k) bitcasts_S128x256_w8_S32x256_w32 (ix2 r c)) (2 * q))
      (byteOf (bitcast S32x256 32 (loadCodes x3 k) bitcasts_S128x256_w8_S32x256_w32 (ix2 r c)) (2 * q + 1))
      (field (loadPos x4 k (ix2 ⟨r.val / 4, by omega⟩ c)) (4 * (r.val % 4) + 2 * q))
      (field (loadPos x4 k (ix2 ⟨r.val / 4, by omega⟩ c)) (4 * (r.val % 4) + (2 * q + 1)))
      = groupWord (colOf x3 c) (colOf x4 c) g := by
  have hk := trip_lt k
  rw [byteOf_bitcast _ _ r c (2 * q) (by omega) ⟨4 * r.val + 2 * q, by omega⟩ rfl,
    byteOf_bitcast _ _ r c (2 * q + 1) (by omega) ⟨4 * r.val + (2 * q + 1), by omega⟩ rfl,
    codes_at x3 k _ c ⟨2 * g.val, by omega⟩ (by dsimp only; omega),
    codes_at x3 k _ c ⟨2 * g.val + 1, by omega⟩ (by dsimp only; omega),
    pos_at x4 k _ c ⟨g.val / 8, by omega⟩ (by dsimp only; omega)]
  unfold groupWord groupPos
  rw [show 2 * (g.val % 8) + 0 = 4 * (r.val % 4) + 2 * q by omega,
    show 2 * (g.val % 8) + 1 = 4 * (r.val % 4) + (2 * q + 1) by omega]
  rfl

section Payloads

variable (x3 : Vec F S3840x256 .i8) (x4 : Vec F S240x256 .i32) (k : Fin k0_t1_loop.trips)

/-- The first stored vector: the even groups of the left half of the columns. -/
abbrev storedEvenL : Vec F S1x32x128 .i32 :=
  k0_pay2 (k0_pay9 (F := F) (loadCodes x3 k) (loadPos x4 k))
/-- The second: the odd groups of the left half. -/
abbrev storedOddL : Vec F S1x32x128 .i32 :=
  k0_pay3 (k0_pay10 (F := F) (loadCodes x3 k) (loadPos x4 k))
    (k0_pay11 (F := F) (loadCodes x3 k)) (k0_pay12 (F := F) (loadPos x4 k))
/-- The third: the even groups of the right half. -/
abbrev storedEvenR : Vec F S1x32x128 .i32 :=
  k0_pay4 (k0_pay9 (F := F) (loadCodes x3 k) (loadPos x4 k))
/-- The fourth: the odd groups of the right half. -/
abbrev storedOddR : Vec F S1x32x128 .i32 :=
  k0_pay5 (k0_pay10 (F := F) (loadCodes x3 k) (loadPos x4 k))
    (k0_pay11 (F := F) (loadCodes x3 k)) (k0_pay12 (F := F) (loadPos x4 k))

/-- The even words at an index. -/
theorem even_at (r : Fin 32) (c : Fin 256) (g : Fin 1920) (hg : g.val = 64 * k.val + 2 * r.val) :
    k0_pay9 (F := F) (loadCodes x3 k) (loadPos x4 k) (ix2 r c) = groupWord (colOf x3 c) (colOf x4 c) g := by
  rw [← word_at x3 x4 k r c 0 (by omega) g (by omega)]
  generalize loadCodes (F := F) x3 k = v4
  generalize loadPos (F := F) x4 k = v7
  pointwise [k0_pay9, k0_pay7, k0_pay8]
  rw [bitcast_bytes v7 _ r c ⟨r.val / 4, by omega⟩ rfl]
  exact even_word _ _ ⟨r.val % 4, by omega⟩

/-- The odd words at an index. -/
theorem odd_at (r : Fin 32) (c : Fin 256) (g : Fin 1920) (hg : g.val = 64 * k.val + 2 * r.val + 1) :
    k0_pay1 (k0_pay10 (F := F) (loadCodes x3 k) (loadPos x4 k)) (k0_pay11 (F := F) (loadCodes x3 k))
      (k0_pay12 (F := F) (loadPos x4 k)) (ix2 r c) = groupWord (colOf x3 c) (colOf x4 c) g := by
  rw [← word_at x3 x4 k r c 1 (by omega) g (by omega)]
  generalize loadCodes (F := F) x3 k = v4
  generalize loadPos (F := F) x4 k = v7
  pointwise [k0_pay1, k0_pay10, k0_pay11, k0_pay12, k0_pay7, k0_pay8]
  rw [bitcast_bytes v7 _ r c ⟨r.val / 4, by omega⟩ rfl]
  exact odd_word _ _ ⟨r.val % 4, by omega⟩

end Payloads

/-- Thirty-two rows of one half of the scratch, every second one, from the offsets on. -/
abbrev stripe (off : Fin 3 → Nat)
    (inb : ∀ a, S1x32x128.size a = 0 ∨ off a + (![1, 2, 1] : Fin 3 → Nat) a * (S1x32x128.size a - 1) < S2x1920x128.size a) :
    Rect S2x1920x128 :=
  ⟨⟨off, S1x32x128.size, ![1, 2, 1], inb⟩, spos_1_2_1⟩

/-- The stores of one trip, the last first. -/
def tripPieces (x3 : Vec F S3840x256 .i8) (x4 : Vec F S240x256 .i32) (k : Fin k0_t1_loop.trips) :
    List (View.Piece (Elt F) S2x1920x128 .i32) :=
  [⟨stripe (k0_off6 k) (k0_off6_inb k), storedOddR x3 x4 k⟩, ⟨stripe (k0_off5 k) (k0_off5_inb k), storedEvenR x3 x4 k⟩,
    ⟨stripe (k0_off4 k) (k0_off4_inb k), storedOddL x3 x4 k⟩, ⟨stripe (k0_off3 k) (k0_off3_inb k), storedEvenL x3 x4 k⟩]

/-- The stores of the trips before `n`, the last first. -/
def expandPieces (x3 : Vec F S3840x256 .i8) (x4 : Vec F S240x256 .i32) : Nat → List (View.Piece (Elt F) S2x1920x128 .i32)
  | 0 => []
  | n + 1 => if h : n < k0_t1_loop.trips then tripPieces x3 x4 ⟨n, h⟩ ++ expandPieces x3 x4 n else expandPieces x3 x4 n

/-- A store at half `h` and the groups `64k + q`, `64k + q + 2`, … agrees with `WORDS` if its rows are those groups' words. -/
theorem stripe_agree (x3 : Vec F S3840x256 .i8) (x4 : Vec F S240x256 .i32) (k : Fin k0_t1_loop.trips) (h : Fin 2) (q : Nat)
    (hq : q < 2) (off : Fin 3 → Nat) (inb) (hoff : off = ![h.val, 64 * k.val + q, 0]) (pay : Vec F S1x32x128 .i32)
    (hp : ∀ (r : Fin 32) (l : Fin 128) (g : Fin 1920), g.val = 64 * k.val + 2 * r.val + q →
      pay (ix3 0 r l) = groupWord (colOf x3 (colAt h l)) (colOf x4 (colAt h l)) g)
    (x : (stripe off inb).shape.Idx) : pay x = WORDS x3 x4 ((stripe off inb).emb x) := by
  subst hoff
  obtain ⟨a, r, l, rfl⟩ : ∃ (a : Fin 1) (r : Fin 32) (l : Fin 128), x = ix3 a r l := ⟨x 0, x 1, x 2, eq_ix3 x⟩
  obtain rfl : a = 0 := Subsingleton.elim _ _
  have hk := trip_lt k
  rw [hp r l ⟨64 * k.val + 2 * r.val + q, by omega⟩ rfl]
  unfold WORDS
  have e0 : ((stripe ![h.val, 64 * k.val + q, 0] inb).emb (ix3 0 r l)) 0 = h := Fin.ext (by
    rw [Rect.emb_apply]; show h.val + 1 * 0 = h.val; omega)
  have e1 : ((stripe ![h.val, 64 * k.val + q, 0] inb).emb (ix3 0 r l)) 1 = (⟨64 * k.val + 2 * r.val + q, by omega⟩ : Fin 1920) :=
    Fin.ext (by rw [Rect.emb_apply]; show 64 * k.val + q + 2 * r.val = 64 * k.val + 2 * r.val + q; omega)
  have e2 : ((stripe ![h.val, 64 * k.val + q, 0] inb).emb (ix3 0 r l)) 2 = l := Fin.ext (by
    rw [Rect.emb_apply]; show 0 + 1 * l.val = l.val; omega)
  rw [e0, e1, e2]

/-- Every store of a trip agrees with `WORDS`. -/
theorem tripPieces_agree (x3 : Vec F S3840x256 .i8) (x4 : Vec F S240x256 .i32) (k : Fin k0_t1_loop.trips) :
    ∀ p ∈ tripPieces x3 x4 k, ∀ x, p.2 x = WORDS x3 x4 (p.1.emb x) := by
  unfold tripPieces
  simp only [List.forall_mem_cons, List.not_mem_nil, false_imp_iff, implies_true, and_true]
  refine ⟨?_, ?_, ?_, ?_⟩
  · refine stripe_agree x3 x4 k 1 1 (by omega) _ _ (k0_off6_eq k) _ fun r l g hg => ?_
    pointwise [k0_pay5]
    exact odd_at x3 x4 k r _ g hg
  · refine stripe_agree x3 x4 k 1 0 (by omega) _ _ (k0_off5_eq k) _ fun r l g hg => ?_
    pointwise [k0_pay4]
    exact even_at x3 x4 k r _ g hg
  · refine stripe_agree x3 x4 k 0 1 (by omega) _ _ (k0_off4_eq k) _ fun r l g hg => ?_
    pointwise [k0_pay3]
    rw [odd_at x3 x4 k r _ g hg]
    congr 2 <;> exact Fin.ext (by show l.val = 128 * 0 + l.val; omega)
  · refine stripe_agree x3 x4 k 0 0 (by omega) _ _ (k0_off3_eq k) _ fun r l g hg => ?_
    pointwise [k0_pay2]
    rw [even_at x3 x4 k r _ g hg]
    congr 2 <;> exact Fin.ext (by show l.val = 128 * 0 + l.val; omega)

/-- Every store of the loop agrees with `WORDS`. -/
theorem expandPieces_agree (x3 : Vec F S3840x256 .i8) (x4 : Vec F S240x256 .i32) (n : Nat) :
    ∀ p ∈ expandPieces x3 x4 n, ∀ x, p.2 x = WORDS x3 x4 (p.1.emb x) := by
  induction n with
  | zero => intro p hp; simp [expandPieces] at hp
  | succ n ih =>
    intro p hp
    unfold expandPieces at hp
    split at hp
    · rcases List.mem_append.1 hp with hp | hp
      · exact tripPieces_agree x3 x4 _ p hp
      · exact ih p hp
    · exact ih p hp

/-- An element of a stripe. -/
theorem mem_stripe (off : Fin 3 → Nat) (inb) (h g₀ : Nat) (hoff : off = ![h, g₀, 0]) (y : S2x1920x128.Idx) (j : Nat) (hj : j < 32)
    (h0 : (y 0).val = h) (h1 : (y 1).val = g₀ + 2 * j) : y ∈ (stripe off inb).set := by
  subst hoff
  rw [LoadRect.mem_set]
  intro a
  match a with
  | ⟨0, _⟩ => exact ⟨0, by show 0 < 1; omega, by show (y 0).val = h + 1 * 0; omega⟩
  | ⟨1, _⟩ => exact ⟨j, hj, by show (y 1).val = g₀ + 2 * j; omega⟩
  | ⟨2, _⟩ => exact ⟨(y 2).val, (y 2).isLt, by show (y 2).val = 0 + 1 * (y 2).val; omega⟩

/-- The stores of a trip cover its sixty-four groups. -/
theorem tripPieces_cover (x3 : Vec F S3840x256 .i8) (x4 : Vec F S240x256 .i32) (k : Fin k0_t1_loop.trips) (y : S2x1920x128.Idx)
    (hlo : 64 * k.val ≤ (y 1).val) (hhi : (y 1).val < 64 * k.val + 64) : ∃ p ∈ tripPieces x3 x4 k, y ∈ p.1.set := by
  have hy : (y 0).val < 2 := (y 0).isLt
  unfold tripPieces
  simp only [List.exists_mem_cons_iff, List.not_mem_nil, false_and, exists_false, or_false]
  have hj : ((y 1).val - 64 * k.val) / 2 < 32 := by omega
  rcases Nat.lt_or_ge (y 0).val 1 with h0 | h0 <;> rcases Nat.mod_two_eq_zero_or_one (y 1).val with h1 | h1
  · exact .inr (.inr (.inr (mem_stripe _ _ _ _ (k0_off3_eq k) y _ hj (by omega) (by omega))))
  · exact .inr (.inr (.inl (mem_stripe _ _ _ _ (k0_off4_eq k) y _ hj (by omega) (by omega))))
  · exact .inr (.inl (mem_stripe _ _ _ _ (k0_off5_eq k) y _ hj (by omega) (by omega)))
  · exact .inl (mem_stripe _ _ _ _ (k0_off6_eq k) y _ hj (by omega) (by omega))

/-- The loop makes thirty trips. -/
theorem trips_eq : k0_t1_loop.trips = 30 := by decide +kernel

/-- The stores of the trips before `n` cover the first `64n` groups. -/
theorem expandPieces_cover (x3 : Vec F S3840x256 .i8) (x4 : Vec F S240x256 .i32) (n : Nat) (hn : n ≤ 30) (y : S2x1920x128.Idx)
    (hy : (y 1).val < 64 * n) : ∃ p ∈ expandPieces x3 x4 n, y ∈ p.1.set := by
  induction n with
  | zero => omega
  | succ n ih =>
    unfold expandPieces
    rw [dif_pos (by rw [trips_eq]; omega : n < k0_t1_loop.trips)]
    rcases Nat.lt_or_ge (y 1).val (64 * n) with h | h
    · obtain ⟨p, hp, h⟩ := ih (by omega) h
      exact ⟨p, List.mem_append_right _ hp, h⟩
    · obtain ⟨p, hp, h⟩ := tripPieces_cover x3 x4 ⟨n, by rw [trips_eq]; omega⟩ y h (by show (y 1).val < 64 * n + 64; omega)
      exact ⟨p, List.mem_append_left _ hp, h⟩

/-- AFTER THE LOOP the scratch reads as `WORDS`, whatever it held before. -/
theorem read_expand {κ : Kind} {sp : Space} (v : View sig κ sp S2x1920x128 .i32) (f : v.ty.Contents (Elt F)) (x3 : Vec F S3840x256 .i8)
    (x4 : Vec F S240x256 .i32) : v.read (Elt F) (v.writes (Elt F) f (expandPieces x3 x4 k0_t1_loop.trips)) = WORDS x3 x4 := by
  funext y
  have hc : ∃ p ∈ expandPieces x3 x4 k0_t1_loop.trips, y ∈ p.1.set :=
    expandPieces_cover x3 x4 _ (by rw [trips_eq]) y (by rw [trips_eq]; exact (y 1).isLt)
  rw [View.read_writes_apply_eq_canon v f y _ hc]
  exact View.canon_apply_of_pieces _ _ (expandPieces_agree x3 x4 _) y hc

end Cert.Proof.KernelIdealValue

end
-- ==== Proof.Body.lean ====
module

public import proofs.«01_k».proof.Proof.Gen.KernelIdeal.Skeleton
public import proofs.«01_k».proof.Proof.Expand
public import Idealize.ShloMosaic.Lib.Exec
public import Idealize.ShloMosaic.Lib.Tactic
public import Idealize.ShloMosaic.Lib.Pipeline.Kit

/-!
  THE KERNEL'S BODY with its result named. The first loop leaves the scratch reading as `WORDS` (Expand.lean); each trip of
  the second loop stores one block of 512 rows, `blockOf`, of the result; together they are `OUT`. `sound_kernel` is the
  body's specification at one point of the grid.
-/

@[expose] public section

set_option maxRecDepth 16384

noncomputable section

namespace Cert.Proof.KernelIdealValue

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Blocks

variable (x1 : Vec F S2048x7680 .fp8e5m2) (x2 : Vec F S2048x1 .f32) (x5 : Vec F S1x7680 .f32) (x7 : Vec F S2x1920x128 .i32)

/-- What trip `k` of the second loop stores: 512 rows of the result, from the left factor `x1`, the row scales `x2`, the
    column scales `x5` and the words `x7` of the right factor. -/
def blockOf (k : Fin k0_t2_loop.trips) : Vec F S512x256 .bf16 :=
  k0_pay6
    (k0_pay16
      (k0_pay13 (View.ld x5 (Rect.unit ![0, 0] S1x1536.size inb_S1x7680_S1x1536_0_0))
        (View.ld x1 (Rect.unit (k0_off7 k) S512x1536.size (k0_off7_inb k)))
        (View.ld x7 (Rect.unit ![0, 0, 0] S1x384x128.size inb_S2x1920x128_S1x384x128_0_0_0))
        (View.ld x7 (Rect.unit ![1, 0, 0] S1x384x128.size inb_S2x1920x128_S1x384x128_1_0_0)))
      (k0_pay14 (View.ld x5 (Rect.unit ![0, 1536] S1x1536.size inb_S1x7680_S1x1536_0_1536))
        (View.ld x1 (Rect.unit (k0_off8 k) S512x1536.size (k0_off8_inb k))))
      (k0_pay15 (View.ld x7 (Rect.unit ![0, 384, 0] S1x384x128.size inb_S2x1920x128_S1x384x128_0_384_0)))
      (View.ld x7 (Rect.unit ![1, 384, 0] S1x384x128.size inb_S2x1920x128_S1x384x128_1_384_0))
      (View.ld x5 (Rect.unit ![0, 3072] S1x1536.size inb_S1x7680_S1x1536_0_3072))
      (View.ld x1 (Rect.unit (k0_off9 k) S512x1536.size (k0_off9_inb k)))
      (View.ld x7 (Rect.unit ![0, 768, 0] S1x384x128.size inb_S2x1920x128_S1x384x128_0_768_0))
      (View.ld x7 (Rect.unit ![1, 768, 0] S1x384x128.size inb_S2x1920x128_S1x384x128_1_768_0)))
    (k0_pay17 (View.ld x5 (Rect.unit ![0, 4608] S1x1536.size inb_S1x7680_S1x1536_0_4608))
      (View.ld x1 (Rect.unit (k0_off10 k) S512x1536.size (k0_off10_inb k))))
    (k0_pay18 (View.ld x7 (Rect.unit ![0, 1152, 0] S1x384x128.size inb_S2x1920x128_S1x384x128_0_1152_0)))
    (View.ld x7 (Rect.unit ![1, 1152, 0] S1x384x128.size inb_S2x1920x128_S1x384x128_1_1152_0))
    (View.ld x5 (Rect.unit ![0, 6144] S1x1536.size inb_S1x7680_S1x1536_0_6144))
    (View.ld x1 (Rect.unit (k0_off11 k) S512x1536.size (k0_off11_inb k)))
    (View.ld x7 (Rect.unit ![0, 1536, 0] S1x384x128.size inb_S2x1920x128_S1x384x128_0_1536_0))
    (View.ld x7 (Rect.unit ![1, 1536, 0] S1x384x128.size inb_S2x1920x128_S1x384x128_1_1536_0))
    (View.ld x2 (Rect.unit (k0_off12 k) S512x1.size (k0_off12_inb k)))

/-- The second loop makes four trips. -/
theorem trips2_eq : k0_t2_loop.trips = 4 := by decide +kernel

/-- The result of the body: row `512k + r` is row `r` of trip `k`'s block. -/
def OUT : Vec F S2048x256 .bf16 := fun y =>
  blockOf x1 x2 x5 x7 ⟨(y 0).val / 512, by rw [trips2_eq]; exact Nat.div_lt_of_lt_mul (y 0).isLt⟩
    (ix2 ⟨(y 0).val % 512, Nat.mod_lt _ (by decide)⟩ (y 1))

/-- The rows that trip `k` stores. -/
abbrev rowsRect (k : Fin k0_t2_loop.trips) : Rect S2048x256 := Rect.unit (k0_off13 k) S512x256.size (k0_off13_inb k)

/-- The stores of the trips before `n`, the last first. -/
def blockPieces : Nat → List (View.Piece (Elt F) S2048x256 .bf16)
  | 0 => []
  | n + 1 => if h : n < k0_t2_loop.trips then ⟨rowsRect ⟨n, h⟩, blockOf x1 x2 x5 x7 ⟨n, h⟩⟩ :: blockPieces n else blockPieces n

/-- A store of the second loop agrees with `OUT`. -/
theorem block_agree (k : Fin k0_t2_loop.trips) (x : (rowsRect k).shape.Idx) :
    blockOf x1 x2 x5 x7 k x = OUT x1 x2 x5 x7 ((rowsRect k).emb x) := by
  obtain ⟨r, l, rfl⟩ : ∃ (r : Fin 512) (l : Fin 256), x = ix2 r l := ⟨x 0, x 1, eq_ix2 x⟩
  have e0 : ((rowsRect k).emb (ix2 r l) 0).val = 512 * k.val + r.val := by
    rw [Rect.emb_apply]
    show k0_off13 k 0 + 1 * r.val = _
    rw [k0_off13_eq]; show 512 * k.val + 1 * r.val = _; omega
  have e1 : (rowsRect k).emb (ix2 r l) 1 = l := Fin.ext (by
    rw [Rect.emb_apply]
    show k0_off13 k 1 + 1 * l.val = _
    rw [k0_off13_eq]; show 0 + 1 * l.val = _; omega)
  unfold OUT
  rw [e1]
  congr 1
  · congr 1; exact Fin.ext (by show k.val = ((rowsRect k).emb (ix2 r l) 0).val / 512; rw [e0]; omega)
  · congr 1; exact Fin.ext (by show r.val = ((rowsRect k).emb (ix2 r l) 0).val % 512; rw [e0]; omega)

/-- Every store of the second loop agrees with `OUT`. -/
theorem blockPieces_agree (n : Nat) :
    ∀ p ∈ blockPieces x1 x2 x5 x7 n, ∀ x, p.2 x = OUT x1 x2 x5 x7 (p.1.emb x) := by
  induction n with
  | zero => intro p hp; simp [blockPieces] at hp
  | succ n ih =>
    intro p hp
    unfold blockPieces at hp
    split at hp
    · rcases List.mem_cons.1 hp with rfl | hp
      · exact block_agree x1 x2 x5 x7 _
      · exact ih p hp
    · exact ih p hp

/-- The stores of the trips before `n` cover the first `512n` rows. -/
theorem blockPieces_cover (n : Nat) (hn : n ≤ 4) (y : S2048x256.Idx) (hy : (y 0).val < 512 * n) :
    ∃ p ∈ blockPieces x1 x2 x5 x7 n, y ∈ p.1.set := by
  induction n with
  | zero => omega
  | succ n ih =>
    unfold blockPieces
    rw [dif_pos (by rw [trips2_eq]; omega : n < k0_t2_loop.trips)]
    rcases Nat.lt_or_ge (y 0).val (512 * n) with h | h
    · obtain ⟨p, hp, h⟩ := ih (by omega) h
      exact ⟨p, List.mem_cons_of_mem _ hp, h⟩
    · refine ⟨_, List.mem_cons_self, ?_⟩
      rw [Rect.mem_set_unit]
      simp only [k0_off13_eq]
      intro a
      match a with
      | ⟨0, _⟩ => exact ⟨h, by show (y 0).val < 512 * n + 512; omega⟩
      | ⟨1, _⟩ => exact ⟨Nat.zero_le _, by show (y 1).val < 0 + 256; have : (y 1).val < 256 := (y 1).isLt; omega⟩

/-- AFTER THE LOOP the result's buffer reads as `OUT`, whatever it held before. -/
theorem read_blocks {κ : Kind} {sp : Space} (v : View sig κ sp S2048x256 .bf16) (f : v.ty.Contents (Elt F)) :
    v.read (Elt F) (v.writes (Elt F) f (blockPieces x1 x2 x5 x7 k0_t2_loop.trips)) = OUT x1 x2 x5 x7 := by
  funext y
  have hc : ∃ p ∈ blockPieces x1 x2 x5 x7 k0_t2_loop.trips, y ∈ p.1.set :=
    blockPieces_cover x1 x2 x5 x7 _ (by rw [trips2_eq]) y (by rw [trips2_eq]; exact (y 0).isLt)
  rw [View.read_writes_apply_eq_canon v f y _ hc]
  exact View.canon_apply_of_pieces _ _ (blockPieces_agree x1 x2 x5 x7 _) y hc

end Blocks

/-- The first loop's invariant before trip `k`: the codes and the positions unchanged, the scratch at the stores of the trips
    before `k`. -/
abbrev expandInv (c : Dev nD) (arg3 : Memref sig .tc .vmem S3840x256 .i8) (arg4 : Memref sig .tc .vmem S240x256 .i32)
    (arg7 : Memref sig .tc .vmem S2x1920x128 .i32) (X3 : BufTy.Contents (Elt F) arg3.view.ty)
    (X4 : BufTy.Contents (Elt F) arg4.view.ty) (G7 : BufTy.Contents (Elt F) arg7.view.ty) (k : ℕ) (_ : PUnit) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f)
      ∗ ⌜f = arg7.view.writes (Elt F) G7 (expandPieces (arg3.view.read (Elt F) X3) (arg4.view.read (Elt F) X4) k)⌝))

set_option warn.classDefReducibility false in
set_option maxHeartbeats 4000000 in
/-- One trip of the first loop adds its four stores. -/
@[sl_loop] def loopInv_k0_t1 (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole)
    (X3 : BufTy.Contents (Elt F) arg3.view.ty) (X4 : BufTy.Contents (Elt F) arg4.view.ty) (G7 : BufTy.Contents (Elt F) arg7.view.ty) :
    LoopInv (M := 𝕄) Idealize.ShloMosaic.frame (wpE defs₀ Variants.none (c : Thread nD τ) none) Set.univ
      k0_t1_loop.lb k0_t1_loop.ub k0_t1_loop.st k0_t1_ok ()
      (k0_t1_body (F := F) i arg1 harg1 arg2 harg2 arg3 harg3 arg4 harg4 arg5 harg5 arg6 harg6 arg7 harg7) where
  inv := expandInv c arg3 arg4 arg7 X3 X4 G7
  step k acc := by
    have hk : k.val < 30 := Nat.lt_of_lt_of_le k.isLt k0_t1_abs.2.1
    iintro ⟨H3, H4, ⟨%f7, H7, %h7⟩⟩
    subst h7
    unfold k0_t1_body
    simp only [k0_part1_eq_skeleton]
    sl_exec
    sl_step
    isplitl [H3]; · iexact H3
    isplitl [H4]; · iexact H4
    iexists _; isplitl [H7]; · iexact H7
    ipureintro
    show _ = View.writes _ _ _ (expandPieces _ _ (k.val + 1))
    rw [expandPieces, dif_pos k.isLt, View.writes_append]
    rfl

/-- The second loop's invariant before trip `k`: what it reads unchanged, the result's buffer at the stores of the trips
    before `k`. -/
abbrev blocksInv (c : Dev nD) (arg1 : Memref sig .tc .vmem S2048x7680 .fp8e5m2) (arg2 : Memref sig .tc .vmem S2048x1 .f32)
    (arg5 : Memref sig .tc .vmem S1x7680 .f32) (arg6 : Memref sig .tc .vmem S2048x256 .bf16)
    (arg7 : Memref sig .tc .vmem S2x1920x128 .i32) (X1 : BufTy.Contents (Elt F) arg1.view.ty)
    (X2 : BufTy.Contents (Elt F) arg2.view.ty) (X5 : BufTy.Contents (Elt F) arg5.view.ty)
    (X7 : BufTy.Contents (Elt F) arg7.view.ty) (G6 : BufTy.Contents (Elt F) arg6.view.ty) (k : ℕ) (_ : PUnit) : sProp 𝕄 :=
  iprop((arg1.view.loc (c : Thread nD τ) ↦[arg1.view.set]{fullShare} X1)
    ∗ (arg2.view.loc (c : Thread nD τ) ↦[arg2.view.set]{fullShare} X2)
    ∗ (arg5.view.loc (c : Thread nD τ) ↦[arg5.view.set]{fullShare} X5)
    ∗ (arg7.view.loc (c : Thread nD τ) ↦[arg7.view.set]{fullShare} X7)
    ∗ (∃ f, (arg6.view.loc (c : Thread nD τ) ↦[arg6.view.set]{fullShare} f)
      ∗ ⌜f = arg6.view.writes (Elt F) G6 (blockPieces (arg1.view.read (Elt F) X1) (arg2.view.read (Elt F) X2)
          (arg5.view.read (Elt F) X5) (arg7.view.read (Elt F) X7) k)⌝))

set_option warn.classDefReducibility false in
set_option maxHeartbeats 4000000 in
/-- One trip of the second loop adds its store. -/
@[sl_loop] def loopInv_k0_t2 (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole)
    (X1 : BufTy.Contents (Elt F) arg1.view.ty)
    (X2 : BufTy.Contents (Elt F) arg2.view.ty) (X5 : BufTy.Contents (Elt F) arg5.view.ty)
    (X7 : BufTy.Contents (Elt F) arg7.view.ty) (G6 : BufTy.Contents (Elt F) arg6.view.ty) :
    LoopInv (M := 𝕄) Idealize.ShloMosaic.frame (wpE defs₀ Variants.none (c : Thread nD τ) none) Set.univ
      k0_t2_loop.lb k0_t2_loop.ub k0_t2_loop.st k0_t2_ok ()
      (k0_t2_body (F := F) i arg1 harg1 arg2 harg2 arg3 harg3 arg4 harg4 arg5 harg5 arg6 harg6 arg7 harg7) where
  inv := blocksInv c arg1 arg2 arg5 arg6 arg7 X1 X2 X5 X7 G6
  step k acc := by
    have hk : k.val < 4 := Nat.lt_of_lt_of_le k.isLt k0_t2_abs.2.1
    iintro ⟨H1, H2, H5, H7, ⟨%f6, H6, %h6⟩⟩
    subst h6
    unfold k0_t2_body
    sl_exec
    sl_step
    isplitl [H1]; · iexact H1
    isplitl [H2]; · iexact H2
    isplitl [H5]; · iexact H5
    isplitl [H7]; · iexact H7
    iexists _; isplitl [H6]; · iexact H6
    ipureintro
    show _ = View.writes _ _ _ (blockPieces _ _ _ _ (k.val + 1))
    rw [blockPieces, dif_pos k.isLt]
    rfl

set_option maxHeartbeats 2000000 in
/-- THE BODY: on whole buffers reading as `d1` … `d5`, it runs to its end, leaves those as they were, and the result's buffer
    reading as `OUT`; what that buffer and the scratch held before does not matter. -/
theorem sound_kernel (c : Dev nD) (i : grid0.Coords) (arg1 : Memref sig .tc .vmem S2048x7680 .fp8e5m2) (harg1 : arg1.IsWhole) (arg2 : Memref sig .tc .vmem S2048x1 .f32) (harg2 : arg2.IsWhole) (arg3 : Memref sig .tc .vmem S3840x256 .i8) (harg3 : arg3.IsWhole) (arg4 : Memref sig .tc .vmem S240x256 .i32) (harg4 : arg4.IsWhole) (arg5 : Memref sig .tc .vmem S1x7680 .f32) (harg5 : arg5.IsWhole) (arg6 : Memref sig .tc .vmem S2048x256 .bf16) (harg6 : arg6.IsWhole) (arg7 : Memref sig .tc .vmem S2x1920x128 .i32) (harg7 : arg7.IsWhole)
    (d1 : Vec F S2048x7680 .fp8e5m2) (d2 : Vec F S2048x1 .f32) (d3 : Vec F S3840x256 .i8) (d4 : Vec F S240x256 .i32)
    (d5 : Vec F S1x7680 .f32) (K : PUnit → sProp 𝕄) :
    iprop(owns (c : Thread nD τ) arg1 fullShare d1 ∗ owns (c : Thread nD τ) arg2 fullShare d2
        ∗ owns (c : Thread nD τ) arg3 fullShare d3 ∗ owns (c : Thread nD τ) arg4 fullShare d4
        ∗ owns (c : Thread nD τ) arg5 fullShare d5 ∗ (∃ d, owns (c : Thread nD τ) arg6 fullShare d)
        ∗ (∃ d, owns (c : Thread nD τ) arg7 fullShare d)
        ∗ (iprop(owns (c : Thread nD τ) arg1 fullShare d1 ∗ owns (c : Thread nD τ) arg2 fullShare d2
        ∗ owns (c : Thread nD τ) arg3 fullShare d3 ∗ owns (c : Thread nD τ) arg4 fullShare d4
        ∗ owns (c : Thread nD τ) arg5 fullShare d5 ∗ owns (c : Thread nD τ) arg6 fullShare (OUT d1 d2 d5 (WORDS d3 d4))
        ∗ (∃ d, owns (c : Thread nD τ) arg7 fullShare d)) -∗ K ⟨⟩))
      ⊢ wp frame (wpE (defs₀ (F := F)) Variants.none c none) Set.univ (cc0_dgrad24 i arg1 harg1 arg2 harg2 arg3 harg3 arg4 harg4 arg5 harg5 arg6 harg6 arg7 harg7) K := by
  simp only [cc0_dgrad24_eq_skeleton]; unfold cc0_dgrad24_skel owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  subst h1 h2 h3 h4 h5
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    rw [read_blocks, read_expand]
  iexists _, _; isplitr; swap; · iexact H7
  ipureintro; rfl

end Cert.Proof.KernelIdealValue

end
-- ==== Proof.Formula.lean ====
module

public import proofs.«01_k».proof.Proof.Body
public import Idealize.ShloMosaic.Lib.Pointwise

/-!
  THE BODY'S RESULT OVER THE EXTENDED REALS. `product` is one element of the result in closed form: the sum over the 7680
  rows of the dense weight, times the row's scale. `OUT_eq` says the body's result is that, element by element: column `l`
  of the result depends on column `l` of the codes and of the positions only.
-/

@[expose] public section

set_option maxRecDepth 16384

noncomputable section

namespace Cert.Proof.KernelIdealValue

open Cert.KernelIdeal Cert.KernelIdeal.Gen Cert.Proof.Words
open Idealize.ShloMosaic

/-- The value of row `o` of a column of the dense weight: its code, read as an eight-bit float. -/
def denseVal (v : Fin 3840 → BitVec 8) (mt : Fin 240 → BitVec 32) (o : Fin 7680) : EReal :=
  Ideal.ofBits .fp8e4m3 (denseCode v mt o)

/-- One element of the result: a row `dy` of the left factor, the column scales `ws`, a column of codes and of positions, and
    the row's scale `s`. -/
def product (dy ws : Fin 7680 → EReal) (v : Fin 3840 → BitVec 8) (mt : Fin 240 → BitVec 32) (s : EReal) : EReal :=
  (∑ o : Fin 7680, dy o * ws o * denseVal v mt o) * s

variable (x1 : Vec Ideal S2048x7680 .fp8e5m2) (x2 : Vec Ideal S2048x1 .f32) (x3 : Vec Ideal S3840x256 .i8)
  (x4 : Vec Ideal S240x256 .i32) (x5 : Vec Ideal S1x7680 .f32)

/-- A block of words of one half of the scratch, as it is loaded. -/
theorem block_word (x7 : Vec Ideal S2x1920x128 .i32) (b : Nat) (h : Fin 2) (off : Fin 3 → Nat)
    (inb : ∀ a, off a + S1x384x128.size a ≤ S2x1920x128.size a) (hoff : off = ![h.val, 384 * b, 0]) (a : Fin 384) (l : Fin 128)
    (g : Fin 1920) (hg : g.val = 384 * b + a.val) :
    View.ld x7 (Rect.unit off S1x384x128.size inb) (ix3 0 a l) = x7 (ix3 h g l) := by
  subst hoff
  refine congrArg x7 ?_
  funext c
  match c with
  | ⟨0, _⟩ => exact Fin.ext (by show h.val + 1 * 0 = h.val; omega)
  | ⟨1, _⟩ => exact Fin.ext (by show 384 * b + 1 * a.val = g.val; omega)
  | ⟨2, _⟩ => exact Fin.ext (by show 0 + 1 * l.val = l.val; omega)

/-- A loaded block of words read as bytes. -/
theorem block_byte (v : Vec Ideal S1x384x128 .i32) (x : Fin 1536) (l : Fin 128) :
    bitcast S1536x128 8 (shapeCast S384x128 v shapeCasts_S1x384x128_S384x128)
      bitcasts_S384x128_w32_S1536x128_w8 (ix2 x l) = byteOf (v (ix3 0 ⟨x.val / 4, by omega⟩ l)) (x.val % 4) := by
  rw [bitcast_bytes _ bitcasts_S384x128_w32_S1536x128_w8 x l ⟨x.val / 4, by omega⟩ rfl]
  refine congrArg (fun w => byteOf w (x.val % 4)) ?_
  pointwise

/-- A word of the scratch after the expansion, a byte of it: a code of the dense weight. -/
theorem words_byte (h : Fin 2) (l : Fin 128) (o : Fin 7680) (g : Fin 1920) (hg : g.val = o.val / 4) (q : Nat)
    (hq : q = o.val % 4) :
    byteOf (WORDS (F := Ideal) x3 x4 (ix3 h g l)) q = denseCode (colOf x3 (colAt h l)) (colOf x4 (colAt h l)) o := by
  subst hq
  have e : g = ⟨o.val / 4, by omega⟩ := Fin.ext hg
  rw [e]
  rfl

/-- The two halves of a block side by side, read as floats: values of the dense weight, at any column. -/
theorem half_at (b : Nat) (off0 off1 : Fin 3 → Nat) (inb0 : ∀ a, off0 a + S1x384x128.size a ≤ S2x1920x128.size a)
    (inb1 : ∀ a, off1 a + S1x384x128.size a ≤ S2x1920x128.size a)
    (h0 : off0 = ![0, 384 * b, 0]) (h1 : off1 = ![1, 384 * b, 0]) (l : Fin 256) (x : Fin 1536) (o : Fin 7680)
    (ho : o.val = 1536 * b + x.val) :
    (if h : l.val < 128 then
      Ideal.ofBits .fp8e4m3 (bitcast S1536x128 8 (shapeCast S384x128 (View.ld (Val := Elt Ideal) (WORDS (F := Ideal) x3 x4)
        (Rect.unit (s := S2x1920x128) off0 S1x384x128.size inb0)) shapeCasts_S1x384x128_S384x128)
      bitcasts_S384x128_w32_S1536x128_w8 (ix2 x ⟨l.val, h⟩))
    else
      Ideal.ofBits .fp8e4m3 (bitcast S1536x128 8 (shapeCast S384x128 (View.ld (Val := Elt Ideal) (WORDS (F := Ideal) x3 x4)
        (Rect.unit (s := S2x1920x128) off1 S1x384x128.size inb1)) shapeCasts_S1x384x128_S384x128)
      bitcasts_S384x128_w32_S1536x128_w8 (ix2 x ⟨l.val - 128, by omega⟩)))
    = denseVal (colOf x3 l) (colOf x4 l) o := by
  unfold denseVal
  split
  · rename_i h
    refine congrArg _ ?_
    refine (block_byte _ x _).trans ?_
    rw [block_word _ b 0 off0 inb0 h0 _ _ ⟨o.val / 4, by omega⟩ (by dsimp only; omega)]
    rw [words_byte x3 x4 0 _ o _ rfl _ (by omega)]
    have e : colAt 0 ⟨l.val, h⟩ = l := Fin.ext (by show 128 * 0 + l.val = l.val; omega)
    rw [e]
  · rename_i h
    refine congrArg _ ?_
    refine (block_byte _ x _).trans ?_
    rw [block_word _ b 1 off1 inb1 h1 _ _ ⟨o.val / 4, by omega⟩ (by dsimp only; omega)]
    rw [words_byte x3 x4 1 _ o _ rfl _ (by omega)]
    have e : colAt 1 ⟨l.val - 128, by omega⟩ = l := Fin.ext (by show 128 * 1 + (l.val - 128) = l.val; omega)
    rw [e]

/-- A sum over the 7680 rows, in the five blocks of 1536 in which the kernel takes it. -/
theorem sum_blocks (f : Fin 7680 → EReal) :
    ∑ o, f o = ((((∑ x : Fin 1536, f ⟨x.val, by omega⟩) + ∑ x : Fin 1536, f ⟨1536 + x.val, by omega⟩)
      + ∑ x : Fin 1536, f ⟨3072 + x.val, by omega⟩) + ∑ x : Fin 1536, f ⟨4608 + x.val, by omega⟩)
      + ∑ x : Fin 1536, f ⟨6144 + x.val, by omega⟩ := by
  rw [Fin.sum_univ_two_halves 6144 1536 rfl f,
    Fin.sum_univ_two_halves 4608 1536 rfl (fun k : Fin 6144 => f ⟨k.val, by omega⟩),
    Fin.sum_univ_two_halves 3072 1536 rfl (fun k : Fin 4608 => f ⟨k.val, by omega⟩),
    Fin.sum_univ_two_halves 1536 1536 rfl (fun k : Fin 3072 => f ⟨k.val, by omega⟩)]

set_option maxHeartbeats 4000000 in
/-- One element of a block of the result. -/
theorem blockOf_eq (k : Fin k0_t2_loop.trips) (r : Fin 512) (l : Fin 256) (R : Fin 2048) (hR : R.val = 512 * k.val + r.val) :
    blockOf x1 x2 x5 (WORDS (F := Ideal) x3 x4) k (ix2 r l)
      = product (fun o => x1 (ix2 R o)) (fun o => x5 (ix2 0 o)) (colOf x3 l) (colOf x4 l) (x2 (ix2 R 0)) := by
  unfold blockOf
  pointwise [k0_pay6, k0_pay16, k0_pay13, k0_pay14, k0_pay15, k0_pay17, k0_pay18, k0_off7_eq, k0_off8_eq, k0_off9_eq,
    k0_off10_eq, k0_off11_eq, k0_off12_eq]
  have hk : k.val < 4 := Nat.lt_of_lt_of_le k.isLt k0_t2_abs.2.1
  have eR : (⟨512 * k.val + r.val, by omega⟩ : Fin 2048) = R := Fin.ext hR.symm
  simp only [eR]
  unfold product
  rw [sum_blocks]
  congr 1
  refine congrArg₂ (· + ·) (congrArg₂ (· + ·) (congrArg₂ (· + ·) (congrArg₂ (· + ·) ?_ ?_) ?_) ?_) ?_
  · exact Finset.sum_congr rfl fun x _ => congrArg (_ * ·) (half_at x3 x4 0 _ _ _ _ rfl rfl l x ⟨x.val, by omega⟩ (by dsimp only; omega))
  · exact Finset.sum_congr rfl fun x _ => congrArg (_ * ·) (half_at x3 x4 1 _ _ _ _ rfl rfl l x ⟨1536 + x.val, by omega⟩ rfl)
  · exact Finset.sum_congr rfl fun x _ => congrArg (_ * ·) (half_at x3 x4 2 _ _ _ _ rfl rfl l x ⟨3072 + x.val, by omega⟩ rfl)
  · exact Finset.sum_congr rfl fun x _ => congrArg (_ * ·) (half_at x3 x4 3 _ _ _ _ rfl rfl l x ⟨4608 + x.val, by omega⟩ rfl)
  · exact Finset.sum_congr rfl fun x _ => congrArg (_ * ·) (half_at x3 x4 4 _ _ _ _ rfl rfl l x ⟨6144 + x.val, by omega⟩ rfl)

/-- ONE ELEMENT OF THE BODY'S RESULT. -/
theorem OUT_eq (R : Fin 2048) (l : Fin 256) :
    OUT x1 x2 x5 (WORDS (F := Ideal) x3 x4) (ix2 R l)
      = product (fun o => x1 (ix2 R o)) (fun o => x5 (ix2 0 o)) (colOf x3 l) (colOf x4 l) (x2 (ix2 R 0)) := by
  unfold OUT
  exact blockOf_eq x1 x2 x3 x4 x5 _ _ l R (by show R.val = 512 * (R.val / 512) + R.val % 512; omega)

end Cert.Proof.KernelIdealValue

end
-- ==== Proof.KernelIdealRun.lean ====
module

public import proofs.«01_k».proof.Proof.Formula
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit.Geometry
public import Idealize.ShloMosaic.Lib.Claim

/-!
  THE RUN OF THE IDEALIZED KERNEL, WITH ITS RESULT. The grid has twelve points; point `t` handles columns `256 t` up to
  `256 t + 255` of the codes, of the positions and of the result. The last point has only 64 of its 256 columns inside the
  arrays: there the buffers' other columns hold words nothing names, and the result's other columns are never written back.
  As a column of the result depends on the same column of the codes and positions only, every written column is right.
-/

@[expose] public section

set_option maxRecDepth 16384

noncomputable section

namespace Cert.Proof.KernelIdealValue

open Cert.KernelIdeal Cert.KernelIdeal.Gen Cert.Proof.Words
open Idealize.ShloMosaic Idealize.ShloMosaic.TcCoe
open Idealize.SL Idealize.SL.RA Idealize.SL.BI Idealize.SL.BI.BIBase Idealize.SL.BI.Laws
open Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The result of the whole call from the arrays the kernel reads: the left factor, the rows' scales, the codes, the
    positions, the column scales. -/
def whole (a0 : Vec Ideal S2048x7680 .fp8e5m2) (a1 : Vec Ideal S2048x1 .f32) (a2 : Vec Ideal S3840x2880 .i8)
    (a3 : Vec Ideal S240x2880 .i32) (a4 : Vec Ideal S1x7680 .f32) : Vec Ideal S2048x2880 .bf16 := fun y =>
  product (fun o => a0 (ix2 (y 0) o)) (fun o => a4 (ix2 0 o)) (fun r => a2 (ix2 r (y 1))) (fun r => a3 (ix2 r (y 1)))
    (a1 (ix2 (y 0) 0))

/-- The same, of the arrays as the kernel finds them. -/
def goal (c : Dev nD) : Vec Ideal S2048x2880 .bf16 :=
  whole (V m c main_v0) (V m c main_v1) (V m c main_arg2) (V m c main_arg3) (V m c main_v2)

/-- The codes' buffer after the body: the block, and past the array's end a filler. -/
def after2 (c : Dev nD) (t : Fin cfg0.N) : Vec Ideal S3840x256 .i8 :=
  win0_2.fill (grid0.coords t) (fun _ => (0#8 : BitVec 8)) (iblk m c 2 t)
/-- The positions' buffer after the body. -/
def after3 (c : Dev nD) (t : Fin cfg0.N) : Vec Ideal S240x256 .i32 :=
  win0_3.fill (grid0.coords t) (fun _ => (0#32 : BitVec 32)) (iblk m c 3 t)
/-- The result's buffer after the body: the block of `goal`. -/
def after5 (c : Dev nD) (t : Fin cfg0.N) : Vec Ideal S2048x256 .bf16 :=
  win0_5.fill (grid0.coords t) (fun _ => (0 : EReal)) ((win0_5.blk t).view.read (Elt Ideal) (goal m c))

theorem cut_after2 (c : Dev nD) (t : Fin cfg0.N) : win0_2.cut (grid0.coords t) (after2 m c t) = iblk m c 2 t :=
  win0_2.cut_fill _ _ _
theorem cut_after3 (c : Dev nD) (t : Fin cfg0.N) : win0_3.cut (grid0.coords t) (after3 m c t) = iblk m c 3 t :=
  win0_3.cut_fill _ _ _
theorem cut_after5 (c : Dev nD) (t : Fin cfg0.N) :
    win0_5.cut (grid0.coords t) (after5 m c t) = (win0_5.blk t).view.read (Elt Ideal) (goal m c) :=
  win0_5.cut_fill _ _ _

/-- The pipeline's proof data. After the body an input's buffer holds its block, the result's the block of `goal`; on the
    columns past the arrays' end a filler nothing reads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => after2 m c t
    | ⟨3, _⟩ => after3 m c t
    | ⟨4, _⟩ => iblk m c 4 t
    | ⟨5, _⟩ => after5 m c t
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

theorem after_2 (c : Dev nD) (t : Fin cfg0.N) : (dats m 0 c).after 2 t = after2 m c t := by dsimp only [dats]
theorem after_3 (c : Dev nD) (t : Fin cfg0.N) : (dats m 0 c).after 3 t = after3 m c t := by dsimp only [dats]
theorem after_5 (c : Dev nD) (t : Fin cfg0.N) : (dats m 0 c).after 5 t = after5 m c t := by dsimp only [dats]

/-- The codes' buffer has just been fetched: the block on the columns inside the array. -/
theorem before_2 (c : Dev nD) (t : Fin cfg0.N) (d) :
    (dats m 0 c).before (2 : Fin 6) t d = win0_2.fill (grid0.coords t) d (iblk m c 2 t) := by
  unfold Dat.before; rw [if_pos (fetch0_2 t)]; rfl

/-- The positions' buffer likewise. -/
theorem before_3 (c : Dev nD) (t : Fin cfg0.N) (d) :
    (dats m 0 c).before (3 : Fin 6) t d = win0_3.fill (grid0.coords t) d (iblk m c 3 t) := by
  unfold Dat.before; rw [if_pos (fetch0_3 t)]; rfl

/-- The block of point `t` begins at column `256 t`. -/
theorem index_2 (t : Fin cfg0.N) : win0_2.index t = ![0, (grid0.coords t 0).val] :=
  (by decide +kernel : ∀ t : Fin grid0.N, win0_2.index t = ![0, (grid0.coords t 0).val]) t
theorem index_3 (t : Fin cfg0.N) : win0_3.index t = ![0, (grid0.coords t 0).val] :=
  (by decide +kernel : ∀ t : Fin grid0.N, win0_3.index t = ![0, (grid0.coords t 0).val]) t
theorem index_5 (t : Fin cfg0.N) : win0_5.index t = ![0, (grid0.coords t 0).val] :=
  (by decide +kernel : ∀ t : Fin grid0.N, win0_5.index t = ![0, (grid0.coords t 0).val]) t

/-- How many columns of the block lie inside the arrays: the same for the codes, the positions and the result. -/
theorem xsize_2 (t : Fin cfg0.N) :
    win0_2.xsize (grid0.coords t) 0 = 3840 ∧ win0_2.xsize (grid0.coords t) 1 = win0_5.xsize (grid0.coords t) 1 :=
  (by decide +kernel : ∀ t : Fin grid0.N,
    win0_2.xsize (grid0.coords t) 0 = 3840 ∧ win0_2.xsize (grid0.coords t) 1 = win0_5.xsize (grid0.coords t) 1) t
theorem xsize_3 (t : Fin cfg0.N) :
    win0_3.xsize (grid0.coords t) 0 = 240 ∧ win0_3.xsize (grid0.coords t) 1 = win0_5.xsize (grid0.coords t) 1 :=
  (by decide +kernel : ∀ t : Fin grid0.N,
    win0_3.xsize (grid0.coords t) 0 = 240 ∧ win0_3.xsize (grid0.coords t) 1 = win0_5.xsize (grid0.coords t) 1) t

/-- The left factor's block is the whole array. -/
theorem iblk_0 (c : Dev nD) (t : Fin cfg0.N) (y : S2048x7680.Idx) : iblk m c 0 t y = V m c main_v0 y := by
  have e : win0_0.index t = ![0, 0] := (by decide +kernel : ∀ t : Fin grid0.N, win0_0.index t = ![0, 0]) t
  blk_simp [iblk]
  refine congrArg (V m c main_v0) ?_
  blk_ext [e]

/-- The rows' scales' block is the whole array. -/
theorem iblk_1 (c : Dev nD) (t : Fin cfg0.N) (y : S2048x1.Idx) : iblk m c 1 t y = V m c main_v1 y := by
  have e : win0_1.index t = ![0, 0] := (by decide +kernel : ∀ t : Fin grid0.N, win0_1.index t = ![0, 0]) t
  blk_simp [iblk]
  refine congrArg (V m c main_v1) ?_
  blk_ext [e]

/-- The column scales' block is the whole array. -/
theorem iblk_4 (c : Dev nD) (t : Fin cfg0.N) (y : S1x7680.Idx) : iblk m c 4 t y = V m c main_v2 y := by
  have e : win0_4.index t = ![0, 0] := (by decide +kernel : ∀ t : Fin grid0.N, win0_4.index t = ![0, 0]) t
  blk_simp [iblk]
  refine congrArg (V m c main_v2) ?_
  blk_ext [e]

/-- A column of the codes' buffer inside the array is that column of the array. -/
theorem fill_2 (c : Dev nD) (t : Fin cfg0.N) (d) (r : Fin 3840) (l : Fin 256) (n : Fin 2880)
    (hn : n.val = (grid0.coords t 0).val * 256 + l.val) (hl : l.val < win0_5.xsize (grid0.coords t) 1) :
    win0_2.fill (grid0.coords t) d (iblk m c 2 t) (ix2 r l) = V m c main_arg2 (ix2 r n) := by
  have hm : win0_2.moved (grid0.coords t) (ix2 r l) = true := (win0_2.moved_iff _ _).2 fun a => by
    match a with
    | ⟨0, _⟩ => exact r.isLt.trans_eq (xsize_2 t).1.symm
    | ⟨1, _⟩ => exact hl.trans_eq (xsize_2 t).2.symm
  unfold Window.fill
  rw [dif_pos hm]
  blk_simp [iblk]
  refine congrArg (V m c main_arg2) ?_
  blk_ext [index_2]

/-- A column of the positions' buffer inside the array is that column of the array. -/
theorem fill_3 (c : Dev nD) (t : Fin cfg0.N) (d) (r : Fin 240) (l : Fin 256) (n : Fin 2880)
    (hn : n.val = (grid0.coords t 0).val * 256 + l.val) (hl : l.val < win0_5.xsize (grid0.coords t) 1) :
    win0_3.fill (grid0.coords t) d (iblk m c 3 t) (ix2 r l) = V m c main_arg3 (ix2 r n) := by
  have hm : win0_3.moved (grid0.coords t) (ix2 r l) = true := (win0_3.moved_iff _ _).2 fun a => by
    match a with
    | ⟨0, _⟩ => exact r.isLt.trans_eq (xsize_3 t).1.symm
    | ⟨1, _⟩ => exact hl.trans_eq (xsize_3 t).2.symm
  unfold Window.fill
  rw [dif_pos hm]
  blk_simp [iblk]
  refine congrArg (V m c main_arg3) ?_
  blk_ext [index_3]

/-- What the body leaves in the result's buffer at point `t`, from the fetched buffers. -/
def left (c : Dev nD) (t : Fin cfg0.N) (d2 : Vec Ideal S3840x256 .i8) (d3 : Vec Ideal S240x256 .i32) : Vec Ideal S2048x256 .bf16 :=
  OUT (F := Ideal) (iblk m c 0 t) (iblk m c 1 t) (iblk m c 4 t)
    (WORDS (F := Ideal) (win0_2.fill (grid0.coords t) d2 (iblk m c 2 t)) (win0_3.fill (grid0.coords t) d3 (iblk m c 3 t)))

/-- On the columns inside the array that is the block of `goal`, whatever the buffers held before. -/
theorem cut_left (c : Dev nD) (t : Fin cfg0.N) (d2 : Vec Ideal S3840x256 .i8) (d3 : Vec Ideal S240x256 .i32) :
    win0_5.cut (grid0.coords t) (left m c t d2 d3) = (win0_5.blk t).view.read (Elt Ideal) (goal m c) := by
  funext j
  have hl : (win0_5.xinj (grid0.coords t) j 1).val < win0_5.xsize (grid0.coords t) 1 := (j 1).isLt
  have h0 : (win0_5.blk t).view.emb j 0 = win0_5.xinj (grid0.coords t) j 0 := by
    apply Fin.ext; blk_simp [index_5]
  have h1 : ((win0_5.blk t).view.emb j 1).val = (grid0.coords t 0).val * 256 + (win0_5.xinj (grid0.coords t) j 1).val := by
    blk_simp [index_5]
  show left m c t d2 d3 (win0_5.xinj (grid0.coords t) j) = goal m c ((win0_5.blk t).view.emb j)
  generalize win0_5.xinj (grid0.coords t) j = z at hl h0 h1
  generalize (win0_5.blk t).view.emb j = y at h0 h1
  obtain ⟨R, l, rfl⟩ : ∃ (R : Fin 2048) (l : Fin 256), z = ix2 R l := ⟨_, _, eq_ix2 z⟩
  obtain ⟨R', n, rfl⟩ : ∃ (R : Fin 2048) (n : Fin 2880), y = ix2 R n := ⟨_, _, eq_ix2 y⟩
  obtain rfl : R' = R := h0
  unfold left goal whole
  rw [OUT_eq]
  unfold colOf
  simp only [iblk_0, iblk_1, iblk_4, fill_2 m c t _ _ l n h1 hl, fill_3 m c t _ _ l n h1 hl]
  rfl

/-- The part inside the arrays of what the three buffers hold after the body. -/
theorem cut_2 (c : Dev nD) (t : Fin cfg0.N) (d) : (win0 2).fill (grid0.coords t) d ((win0 2).cut (grid0.coords t) ((dats m 0 c).after 2 t))
    = win0_2.fill (grid0.coords t) d (iblk m c 2 t) := by
  rw [after_2]; exact congrArg (win0_2.fill (grid0.coords t) d) (cut_after2 m c t)
theorem cut_3 (c : Dev nD) (t : Fin cfg0.N) (d) : (win0 3).fill (grid0.coords t) d ((win0 3).cut (grid0.coords t) ((dats m 0 c).after 3 t))
    = win0_3.fill (grid0.coords t) d (iblk m c 3 t) := by
  rw [after_3]; exact congrArg (win0_3.fill (grid0.coords t) d) (cut_after3 m c t)
theorem cut_5 (c : Dev nD) (t : Fin cfg0.N) (d2 : Vec Ideal S3840x256 .i8) (d3 : Vec Ideal S240x256 .i32) :
    (win0 5).fill (grid0.coords t) (left m c t d2 d3) ((win0 5).cut (grid0.coords t) ((dats m 0 c).after 5 t)) = left m c t d2 d3 := by
  rw [after_5]
  exact (congrArg (win0_5.fill (grid0.coords t) (left m c t d2 d3)) ((cut_after5 m c t).trans (cut_left m c t d2 d3).symm)).trans
    (win0_5.fill_cut _ _)

/-- The body at point `t`, on the fetched buffers: it leaves the inputs' as they are and the result's at `left`. -/
theorem sound_body (c : Dev nD) (t : Fin cfg0.N) (d2 : Vec Ideal S3840x256 .i8) (d3 : Vec Ideal S240x256 .i32)
    (K : PUnit → sProp 𝕄) :
    iprop((Pipeline.ΦA (U := UR sig nD τ) spec0 c : sProp 𝕄)
      ∗ owns (c : Thread nD τ) (st0_0 t) fullShare (iblk m c 0 t) ∗ owns (c : Thread nD τ) (st0_1 t) fullShare (iblk m c 1 t)
      ∗ owns (c : Thread nD τ) (st0_2 t) fullShare (win0_2.fill (grid0.coords t) d2 (iblk m c 2 t))
      ∗ owns (c : Thread nD τ) (st0_3 t) fullShare (win0_3.fill (grid0.coords t) d3 (iblk m c 3 t))
      ∗ owns (c : Thread nD τ) (st0_4 t) fullShare (iblk m c 4 t)
      ∗ (∃ d, owns (c : Thread nD τ) (st0_5 t) fullShare d)
      ∗ (iprop((Pipeline.ΦA (U := UR sig nD τ) spec0 c : sProp 𝕄)
        ∗ owns (c : Thread nD τ) (st0_0 t) fullShare (iblk m c 0 t) ∗ owns (c : Thread nD τ) (st0_1 t) fullShare (iblk m c 1 t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (iblk m c 4 t)
        ∗ owns (c : Thread nD τ) (st0_5 t) fullShare (left m c t d2 d3)) -∗ K ⟨⟩))
    ⊢ wp frame (wpE (defs₀ (F := Ideal)) Variants.none c none) Set.univ (bodyAt0 t) K := by
  unfold bodyAt0 Pipeline.ΦA
  rw [scopedRest0_eq]
  simp only [← owns_whole]
  iintro ⟨⟨⟨%g, Hg⟩, Hr⟩, H1, H2, H3, H4, H5, H6, Hk⟩
  iapply (sound_kernel c _ _ _ _ _ _ _ _ _ _ _ _ _ _ _ (iblk m c 0 t) (iblk m c 1 t)
    (win0_2.fill (grid0.coords t) d2 (iblk m c 2 t)) (win0_3.fill (grid0.coords t) d3 (iblk m c 3 t)) (iblk m c 4 t) _)
  isplitl [H1]; · iexact H1
  isplitl [H2]; · iexact H2
  isplitl [H3]; · iexact H3
  isplitl [H4]; · iexact H4
  isplitl [H5]; · iexact H5
  isplitl [H6]; · iexact H6
  isplitl [Hg]
  · iexists g; iexact Hg
  iintro ⟨H1, H2, H3, H4, H5, H6, ⟨%g', Hg⟩⟩
  iapply Hk
  isplitl [Hg Hr]
  · isplitl [Hg]
    · iexists g'; iexact Hg
    iexact Hr
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation: the buffers of the three windows that overhang are stated on the columns inside. -/
theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0_of m (dats m 0 c) (A_eq m c 0) (fun _ => rfl) t d0, before0_1_of m (dats m 0 c) (A_eq m c 1) (fun _ => rfl) t d1,
    before_2 m c t d2, before_3 m c t d3, before0_4_of m (dats m 0 c) (A_eq m c 4) (fun _ => rfl) t d4]
  iapply (sound_body m c t d2 d3 _)
  isplitl [HΦ]; · iexact HΦ
  isplitl [H0]; · iexact H0
  isplitl [H1]; · iexact H1
  isplitl [H2]; · iexact H2
  isplitl [H3]; · iexact H3
  isplitl [H4]; · iexact H4
  isplitl [H5]; · iexists _; iexact H5
  iintro ⟨HΦ, H0, H1, H2, H3, H4, H5⟩
  isplitl [HΦ]; · iexact HΦ
  isplitl [Ho]; · iexact Ho
  isplitl [H0]; · iexact H0
  isplitl [H1]; · iexact H1
  isplitl [H2]
  · iexists d2; rw [cut_2 m c t d2]; iexact H2
  isplitl [H3]
  · iexists d3; rw [cut_3 m c t d3]; iexact H3
  isplitl [H4]; · iexact H4
  iexists (left m c t d2 d3); rw [cut_5 m c t d2 d3]; iexact H5

/-- The result's blocks cover its array. -/
theorem covers_5 : (cfg0.win 5).Covers := by decide +kernel

/-- The result's array after the run. -/
theorem result_eq (c : Dev nD) : (dats m 0 c).arrAt 5 cfg0.N = goal m c := by
  refine (dats m 0 c).arrAt_eq_of_covers 5 _ covers_5 fun t hf y => ?_
  rw [after_5]
  exact congrFun (cut_after5 m c t) y

set_option backward.isDefEq.respectTransparency.types false in
set_option maxHeartbeats 800000 in
/-- The launch: every final state has the arrays as the library computes them. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE RUN: the result's array ends at `goal`, the arguments as they were. -/
theorem run : θ_run defs (onTc (τ := τ) (main (F := Ideal))) ⟨m, fun _ => 0, ρ⟩ (fun r => ∀ c : Dev nD,
      r.2.mem ((c.tc : Thread nD τ).loc main_v3) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (result_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

/-- The left factor as the kernel finds it: the argument, its first two axes taken as one. -/
theorem V_v0 (c : Dev nD) : V m c main_v0
    = shapeCast S2048x7680 (m ((c.tc : Thread nD τ).loc main_arg0)) shapeCasts_S2x1024x7680_S2048x7680 := by
  entry_read
  rfl

/-- The rows' scales as the kernel finds them: the argument as a column. -/
theorem V_v1 (c : Dev nD) : V m c main_v1
    = shapeCast S2048x1 (m ((c.tc : Thread nD τ).loc main_arg1)) shapeCasts_S2x1024_S2048x1 := by
  entry_read
  rfl

/-- The column scales as the kernel finds them: the argument as a row. -/
theorem V_v2 (c : Dev nD) : V m c main_v2
    = shapeCast S1x7680 (m ((c.tc : Thread nD τ).loc main_arg4)) shapeCasts_S7680_S1x7680 := by
  entry_read
  rfl

end Cert.Proof.KernelIdealValue

end
-- ==== Proof.Dense.lean ====
module

public import proofs.«01_k».proof.Proof.Formula

/-!
  THE DENSE WEIGHT, TWO WAYS. The kernel puts a group's two codes at their byte positions of one word and joins the two with
  a bitwise "or"; the plain formula adds, for each of the two codes, its value if its position is the row's and zero if
  not. When the two positions differ these agree (`denseVal_eq_sum`): at most one code meets a byte.
-/

@[expose] public section

noncomputable section

namespace Cert.Proof.KernelIdealValue

open Cert.Proof.Words Idealize.ShloMosaic

/-- An arithmetic shift to the right by `k`, masked to two bits that are still bits of the word, is the logical one. -/
theorem sshiftRight_and_three (w : BitVec 32) (k : Nat) (hk : k ≤ 30) : w.sshiftRight k &&& 3#32 = (w >>> k) &&& 3#32 := by
  have h3 : ∀ i : Fin 32, ¬ i.val < 2 → (3#32).getLsbD i.val = false := by decide
  apply BitVec.eq_of_getLsbD_eq
  intro i hi
  rw [BitVec.getLsbD_and, BitVec.getLsbD_and]
  by_cases h : i < 2
  · rw [BitVec.getLsbD_sshiftRight, BitVec.getLsbD_ushiftRight]
    simp [show ¬ 32 ≤ i by omega, show k + i < 32 by omega]
  · rw [h3 ⟨i, hi⟩ h, Bool.and_false, Bool.and_false]

/-- The field `e` of a word as the plain formula spells it. -/
theorem field_of_shrsi (u : ArithUnit) (w y : BitVec 32) (e : Nat) (he : e < 16) (hy : y.toNat = 2 * e) :
    IntOp.andi (IntOp.shrsi u w y) 3#32 = field w e := by
  unfold IntOp.shrsi IntOp.andi field
  rw [if_pos (by omega)]
  unfold BitVec.sshiftRight'
  rw [hy]
  exact sshiftRight_and_three w (2 * e) (by omega)

/-- One code at a byte position, read at a byte. -/
theorem byteOf_placed : ∀ (a : BitVec 8) (p j : Fin 4),
    byteOf (a.setWidth 32 <<< (8 * p.val)) j.val = if p = j then a else 0#8 := by decide +kernel

/-- Two codes joined, read at a byte. -/
theorem byteOf_join (a b : BitVec 8) (p q : BitVec 32) (hp : p.toNat < 4) (hq : q.toNat < 4) (j : Fin 4) :
    byteOf (joinCodes a b p q) j.val
      = (if p.toNat = j.val then a else 0#8) ||| (if q.toNat = j.val then b else 0#8) := by
  have e : ∀ x y : BitVec 32, byteOf (x ||| y) j.val = byteOf x j.val ||| byteOf y j.val := fun x y => by
    unfold byteOf; exact BitVec.extractLsb'_or
  unfold joinCodes
  rw [e]
  have ha := byteOf_placed a ⟨p.toNat, hp⟩ j
  have hb := byteOf_placed b ⟨q.toNat, hq⟩ j
  simp only [Fin.ext_iff] at ha hb
  rw [ha, hb]

/-- What the plain formula takes of one code at row `j` of its group: its value if its position is `j`, else zero. -/
def kept (a : BitVec 8) (p : BitVec 32) (j : Nat) : EReal :=
  if p.toNat = j then Ideal.ofBits .fp8e4m3 a else 0

/-- The value of a row of the dense weight is the sum of what its group's two codes give, their positions differing. -/
theorem denseVal_eq_sum (v : Fin 3840 → BitVec 8) (mt : Fin 240 → BitVec 32) (o : Fin 7680) (g : Fin 1920)
    (hg : g.val = o.val / 4) (hd : groupPos mt g 0 ≠ groupPos mt g 1) :
    denseVal v mt o = kept (groupCode v g 0) (groupPos mt g 0) (o.val % 4) + kept (groupCode v g 1) (groupPos mt g 1) (o.val % 4) := by
  have e : (⟨o.val / 4, by omega⟩ : Fin 1920) = g := Fin.ext hg.symm
  have hd' : (groupPos mt g 0).toNat ≠ (groupPos mt g 1).toNat :=
    fun h => hd (BitVec.eq_of_toNat_eq h)
  unfold denseVal denseCode groupWord kept
  rw [e]
  rw [byteOf_join _ _ (groupPos mt g 0) (groupPos mt g 1) (field_lt _ _) (field_lt _ _) ⟨o.val % 4, Nat.mod_lt _ (by decide)⟩]
  have z : Ideal.ofBits .fp8e4m3 (0#8 : BitVec 8) = 0 := Ideal.ofBits_zero .fp8e4m3
  by_cases h0 : (groupPos mt g 0).toNat = o.val % 4
  · have h1 : ¬ (groupPos mt g 1).toNat = o.val % 4 := fun h => hd' (h0.trans h.symm)
    simp [h0, h1]
  · by_cases h1 : (groupPos mt g 1).toNat = o.val % 4
    · simp [h0, h1]
    · simp only [if_neg h0, if_neg h1, BitVec.or_zero, add_zero]
      exact z

end Cert.Proof.KernelIdealValue

end
-- ==== Proof.ReferenceValue.lean ====
module

public import proofs.«01_k».proof.Proof.Dense
public import proofs.«01_k».proof.Proof.Gen.ReferenceIdeal.Value
public import Idealize.ShloMosaic.Lib.Pipeline.ValueKit.Geometry
public import Idealize.ShloMosaic.Lib.Pipeline.ValueKit.Acc
public import Idealize.ShloMosaic.Lib.Claim

/-!
  THE REFERENCE'S RESULT. The reference is one kernel on the whole arrays. Its row `o` of the dense weight is the sum, over the
  two codes of the group `o / 4`, of the code's value if its position is `o % 4` and of zero otherwise; it scales the weight
  where the kernel scales the left factor. Where every group's two positions differ, its result is the kernel's closed form.
-/

@[expose] public section

set_option maxRecDepth 16384

noncomputable section

namespace Cert.Proof.ReferenceIdealValue

open Cert.ReferenceIdeal Cert.ReferenceIdeal.Gen Cert.Proof.Words
open Cert.Proof.KernelIdealValue (product kept denseVal denseVal_eq_sum field_of_shrsi)
open Idealize.ShloMosaic Idealize.ShloMosaic.TcCoe Idealize.SL.Sem

/-- What one code gives a row, as the reference computes it: the position compared, the value or zero selected. -/
theorem select_kept (w y : BitVec 32) (e : Nat) (he : e < 16) (hy : y.toNat = 2 * e) (j : Nat) (hj : j < 4) (a : BitVec 8) :
    Scalar.select (IntOp.cmpi CmpIPredicate.eq (IntOp.andi (IntOp.shrsi ArithUnit.vector w y) 3#32) (BitVec.ofNat 32 j))
      (Ideal.ofBits FTy.fp8e4m3 a) (0 : EReal) = kept a (field w e) j := by
  rw [field_of_shrsi _ w y e he hy]
  have hc : (field w e == BitVec.ofNat 32 j) = decide ((field w e).toNat = j) := by
    rw [Bool.eq_iff_iff, beq_iff_eq, decide_eq_true_iff]
    constructor
    · intro h; rw [h, BitVec.toNat_ofNat]; omega
    · intro h; apply BitVec.eq_of_toNat_eq; rw [h, BitVec.toNat_ofNat]; omega
  unfold kept Scalar.select IntOp.cmpi
  by_cases h : (field w e).toNat = j
  · simp [hc, h]
  · simp [hc, h]

/-- THE REFERENCE'S BODY, at an element of a column whose groups' positions differ. -/
theorem payload (v0 : Vec Ideal S240x2880 .i32) (v11 : Vec Ideal S3840x2880 .i8) (v27 : Vec Ideal S7680x1 .f32)
    (v32 : Vec Ideal S2048x7680 .fp8e5m2) (v36 : Vec Ideal S2048x1 .f32) (R : Fin 2048) (n : Fin 2880)
    (hd : ∀ g : Fin 1920, groupPos (fun r => v0 (ix2 r n)) g 0 ≠ groupPos (fun r => v0 (ix2 r n)) g 1) :
    k0_pay1 v0 v11 v27 v32 v36 (ix2 R n)
      = product (fun o => v32 (ix2 R o)) (fun o => v27 (ix2 o 0)) (fun r => v11 (ix2 r n)) (fun r => v0 (ix2 r n))
          (v36 (ix2 R 0)) := by
  pointwise [k0_pay1]
  unfold product
  congr 1
  refine Finset.sum_congr rfl fun o _ => ?_
  rw [denseVal_eq_sum _ _ o ⟨o.val / 4, by omega⟩ rfl (hd _), Fin.sum_univ_two]
  have hy : ∀ q : Fin 2, (IntOp.muli (2#32) (BitVec.ofNat 32 (o.val / 4 % 8 * 2 + q.val))).toNat
      = 2 * (2 * (o.val / 4 % 8) + q.val) := fun q => by
    unfold IntOp.muli
    rw [BitVec.toNat_mul, BitVec.toNat_ofNat, BitVec.toNat_ofNat]
    omega
  rw [select_kept _ _ (2 * (o.val / 4 % 8) + (0 : Fin 2).val) (by omega) (hy 0) _ (by omega),
    select_kept _ _ (2 * (o.val / 4 % 8) + (1 : Fin 2).val) (by omega) (hy 1) _ (by omega)]
  have hv : ∀ q : Fin 2, groupCode (fun r => v11 (ix2 r n)) ⟨o.val / 4, by omega⟩ q
      = v11 (ix2 ⟨o.val / 4 * 2 + q.val, by omega⟩ n) := fun q => by
    unfold groupCode
    exact congrArg v11 (congrArg (fun r => ix2 r n) (Fin.ext (by show 2 * (o.val / 4) + q.val = o.val / 4 * 2 + q.val; omega)))
  rw [hv 0, hv 1, mul_comm _ (v27 _), ← mul_assoc]
  rfl

variable (m : (ℓ : Loc nD τ sig) → Buf (Elt Ideal) ℓ) (ρ : Dev nD → PrngReg)

theorem iblk_0 (c : Dev nD) (t : Fin cfg0.N) : iblk m c 0 t = V m c main_v0 := by
  have e : win0_0.index t = ![0, 0] := (by decide +kernel : ∀ t : Fin grid0.N, win0_0.index t = ![0, 0]) t
  funext y
  blk_simp [iblk]
  refine congrArg (V m c main_v0) ?_
  blk_ext [e]
theorem iblk_1 (c : Dev nD) (t : Fin cfg0.N) : iblk m c 1 t = V m c main_v1 := by
  have e : win0_1.index t = ![0, 0] := (by decide +kernel : ∀ t : Fin grid0.N, win0_1.index t = ![0, 0]) t
  funext y
  blk_simp [iblk]
  refine congrArg (V m c main_v1) ?_
  blk_ext [e]
theorem iblk_2 (c : Dev nD) (t : Fin cfg0.N) : iblk m c 2 t = V m c main_arg2 := by
  have e : win0_2.index t = ![0, 0] := (by decide +kernel : ∀ t : Fin grid0.N, win0_2.index t = ![0, 0]) t
  funext y
  blk_simp [iblk]
  refine congrArg (V m c main_arg2) ?_
  blk_ext [e]
theorem iblk_3 (c : Dev nD) (t : Fin cfg0.N) : iblk m c 3 t = V m c main_arg3 := by
  have e : win0_3.index t = ![0, 0] := (by decide +kernel : ∀ t : Fin grid0.N, win0_3.index t = ![0, 0]) t
  funext y
  blk_simp [iblk]
  refine congrArg (V m c main_arg3) ?_
  blk_ext [e]
theorem iblk_4 (c : Dev nD) (t : Fin cfg0.N) : iblk m c 4 t = V m c main_v2 := by
  have e : win0_4.index t = ![0, 0] := (by decide +kernel : ∀ t : Fin grid0.N, win0_4.index t = ![0, 0]) t
  funext y
  blk_simp [iblk]
  refine congrArg (V m c main_v2) ?_
  blk_ext [e]

/-- The result's one block covers its array. -/
theorem covers_5 : (cfg0.win 5).Covers := by decide +kernel

/-- The reference's result is its body's on the whole arrays. -/
theorem result_eq (c : Dev nD) : (dats m 0 c).arrAt 5 cfg0.N
    = k0_pay1 (V m c main_arg3) (V m c main_arg2) (V m c main_v2) (V m c main_v0) (V m c main_v1) := by
  refine (dats m 0 c).arrAt_eq_of_covers 5 _ covers_5 fun t hf y => ?_
  have e : win0_5.index t = ![0, 0] := (by decide +kernel : ∀ t : Fin grid0.N, win0_5.index t = ![0, 0]) t
  have hy : (win0_5.blk t).view.emb y = y := by blk_ext [e]
  rw [after0_5, iblk_0, iblk_1, iblk_2, iblk_3, iblk_4]
  frame_out
  generalize k0_pay1 (V m c main_arg3) (V m c main_arg2) (V m c main_v2) (V m c main_v0) (V m c main_v1) = f
  exact congrArg f hy.symm

/-- The left factor as the reference finds it. -/
theorem V_v0 (c : Dev nD) : V m c main_v0
    = shapeCast S2048x7680 (m ((c.tc : Thread nD τ).loc main_arg0)) shapeCasts_S2x1024x7680_S2048x7680 := by
  entry_read
  rfl

/-- The rows' scales as the reference finds them. -/
theorem V_v1 (c : Dev nD) : V m c main_v1
    = shapeCast S2048x1 (m ((c.tc : Thread nD τ).loc main_arg1)) shapeCasts_S2x1024_S2048x1 := by
  entry_read
  rfl

/-- The column scales as the reference finds them: the argument as a column. -/
theorem V_v2 (c : Dev nD) : V m c main_v2
    = shapeCast S7680x1 (m ((c.tc : Thread nD τ).loc main_arg4)) shapeCasts_S7680_S7680x1 := by
  entry_read
  rfl

end Cert.Proof.ReferenceIdealValue

end
-- ==== Proof.Algebraic.lean ====
module

public import proofs.«01_k».proof.Defs
public import proofs.«01_k».proof.Proof.KernelIdealRun
public import proofs.«01_k».proof.Proof.ReferenceValue

/-!
  THE VALUE CLAIM. From memories that agree on the arguments, and where every group's two positions differ, the idealized
  kernel and the idealized reference end with the same result, element by element.
-/

@[expose] public section

set_option maxRecDepth 16384

noncomputable section

namespace Cert.Proof.Algebraic

open Cert.Proof.Words Cert.Proof.KernelIdealValue
open Idealize.ShloMosaic Idealize.ShloMosaic.TcCoe Idealize.SL.Sem

/-- The side conditions of the precondition's operations: all shape relations, decided. -/
theorem preFacts : Cert.Pre_positions_distinct.Facts where
  bcast_S240x2880_S240x1x2880_0_2 := by decide
  bcast_S_S1x8x1 := by decide
  bcast_S240x1x2880_S240x8x2880_0_1_2 := by decide
  bcast_S1x8x1_S240x8x2880_0_1_2 := by decide
  bcast_S_S240x8x2880 := by decide

/-- Shifting twice to the right is shifting once by the sum, on the two bits that are kept. -/
theorem field_of_shrsi_shrsi (w y : BitVec 32) (e : Nat) (he : e < 15) (hy : y.toNat = 2 * e) :
    IntOp.andi (IntOp.shrsi .host (IntOp.shrsi .host w y) 2#32) 3#32 = field w (e + 1) := by
  unfold IntOp.shrsi IntOp.andi field
  rw [if_pos (show y.toNat < 32 by omega), if_pos (by decide)]
  unfold BitVec.sshiftRight'
  rw [hy, show (2#32).toNat = 2 from rfl, ← BitVec.sshiftRight_add]
  exact sshiftRight_and_three w (2 * (e + 1)) (by omega)

/-- The precondition at a group: its two positions differ. -/
theorem distinct_of_pre [Cert.Pre_positions_distinct.Facts] (a0 : Vec Ideal Cert.Pre_positions_distinct.S2x1024x7680 .fp8e5m2)
    (a1 : Vec Ideal Cert.Pre_positions_distinct.S2x1024 .f32) (a2 : Vec Ideal Cert.Pre_positions_distinct.S3840x2880 .i8)
    (a3 : Vec Ideal Cert.Pre_positions_distinct.S240x2880 .i32) (a4 : Vec Ideal Cert.Pre_positions_distinct.S7680 .f32)
    (h : Cert.Pre_positions_distinct.fn (F := Ideal) a0 a1 a2 a3 a4 = fun _ => 1#1) (n : Fin 2880) (g : Fin 1920) :
    groupPos (fun r => a3 (ix2 r n)) g 0 ≠ groupPos (fun r => a3 (ix2 r n)) g 1 := by
  have e := congrFun h (ix3 (⟨g.val / 8, by omega⟩ : Fin 240) (⟨g.val % 8, by omega⟩ : Fin 8) n)
  pointwise [Cert.Pre_positions_distinct.fn] at e
  have hy : (IntOp.muli (4#32) (BitVec.ofNat 32 (g.val % 8))).toNat = 2 * (2 * (g.val % 8)) := by
    unfold IntOp.muli
    rw [BitVec.toNat_mul, BitVec.toNat_ofNat, BitVec.toNat_ofNat]
    omega
  rw [field_of_shrsi _ _ _ (2 * (g.val % 8)) (by omega) hy, field_of_shrsi_shrsi _ _ (2 * (g.val % 8)) (by omega) hy] at e
  intro hc
  unfold groupPos at hc
  rw [Nat.add_zero] at hc
  rw [hc] at e
  simp [IntOp.cmpi] at e

/-- The column scales as a column and as a row, element by element. -/
theorem scales_eq (x : Vec Ideal Cert.KernelIdeal.S7680 .f32) (o : Fin 7680) :
    shapeCast Cert.ReferenceIdeal.S7680x1 x Cert.ReferenceIdeal.Gen.facts.shapeCasts_S7680_S7680x1 (ix2 o 0)
      = shapeCast Cert.KernelIdeal.S1x7680 x Cert.KernelIdeal.Gen.facts.shapeCasts_S7680_S1x7680 (ix2 0 o) := by
  pointwise

/-- THE TWO RESULTS AGREE: the reference's body on its arrays is the kernel's result. -/
theorem results_eq [Cert.Pre_positions_distinct.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_positions_distinct m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 5 Cert.ReferenceIdeal.cfg0.N = goal m c := by
  rw [Cert.Proof.ReferenceIdealValue.result_eq, Cert.Proof.ReferenceIdealValue.V_v0, Cert.Proof.ReferenceIdealValue.V_v1,
    Cert.Proof.ReferenceIdealValue.V_v2, Cert.ReferenceIdeal.Gen.V_main_arg2, Cert.ReferenceIdeal.Gen.V_main_arg3, h0, h1, h2, h3, h4]
  unfold goal whole
  rw [V_v0, V_v1, V_v2, Cert.KernelIdeal.Gen.V_main_arg2, Cert.KernelIdeal.Gen.V_main_arg3]
  funext y
  obtain ⟨R, n, rfl⟩ : ∃ (R : Fin 2048) (n : Fin 2880), y = ix2 R n := ⟨_, _, eq_ix2 y⟩
  refine (Cert.Proof.ReferenceIdealValue.payload _ _ _ _ _ R n fun g => distinct_of_pre _ _ _ _ _ (hp c) n g).trans ?_
  exact congrArg (fun ws => product _ ws _ _ _) (funext fun o => scales_eq _ o)

/-- The value claim. -/
theorem algebraic [Cert.Pre_positions_distinct.Facts] :
    Cert.algebraic_KernelIdeal_ReferenceIdeal_pre_positions_distinct (hKernelIdeal := Cert.KernelIdeal.Gen.facts)
      (hReferenceIdeal := Cert.ReferenceIdeal.Gen.facts) := fun m g m' g' hp ha =>
  ⟨fun c => goal m c, run m g,
    (θ_run Cert.ReferenceIdeal.defs _ _).mono (fun _ h c => ⟨(h c).1.trans
      (results_eq m m' c hp (ha c).1 (ha c).2.1 (ha c).2.2.1 (ha c).2.2.2.1 (ha c).2.2.2.2), (h c).2⟩)
      (Cert.ReferenceIdeal.Value.run_blocks m' g')⟩

end Cert.Proof.Algebraic

end
-- ==== Proof.lean ====
module

public import proofs.«01_k».proof.Proof.Gen.ReferenceIdeal.Value
public import proofs.«01_k».proof.Defs
public import proofs.«01_k».proof.Proof.Gen.ReferenceIdeal.Frame
public import proofs.«01_k».proof.Proof.KernelFrame
public import proofs.«01_k».proof.Proof.KernelIdealFrame
public import proofs.«01_k».proof.Proof.Algebraic

@[expose] public section

noncomputable section

namespace Cert.Proof

/-- Every claim together: the three frames (with and without the precondition), the idealization's preservation, the value claim. -/
theorem claim : Cert.Claim := ⟨Cert.Kernel.Gen.facts, Cert.KernelIdeal.Gen.facts, Cert.ReferenceIdeal.Gen.facts,
  Cert.Proof.Algebraic.preFacts,
  fun m ρ _ => Cert.Proof.Kernel.frame m ρ, fun m ρ _ => Cert.Proof.KernelIdeal.frame m ρ,
  fun m ρ _ => Cert.Proof.KernelIdeal.frame m ρ,
  fun m ρ _ => Cert.ReferenceIdeal.Gen.frame m ρ, fun m ρ _ => Cert.ReferenceIdeal.Gen.frame m ρ, trivial,
  letI := Cert.Proof.Algebraic.preFacts; Cert.Proof.Algebraic.algebraic⟩

end Cert.Proof

end
